-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2_0) = v0 c
          ∧ r.2.mem ((c.tc : Thread Cert.UpRefIdeal.nD Cert.UpRefIdeal.τ).loc Cert.UpRefIdeal.main_v2_1) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3_0) = v0 c
          ∧ r.2.mem ((c.tc : Thread Cert.ProjRefIdeal.nD Cert.ProjRefIdeal.τ).loc Cert.ProjRefIdeal.main_v3_1) = v1 c
          ∧ r.2.mem ((c.tc : Thread Cert.ProjRefIdeal.nD Cert.ProjRefIdeal.τ).loc Cert.ProjRefIdeal.main_v3_2) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts),
    quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
-- ==== Down.lean ====
abbrev S5x384x2048 : Shape := ⟨3, ![5, 384, 2048]⟩
abbrev S5x384x5632 : Shape := ⟨3, ![5, 384, 5632]⟩
abbrev S5x384 : Shape := ⟨2, ![5, 384]⟩
abbrev S2048x5632 : Shape := ⟨2, ![2048, 5632]⟩
abbrev S2048 : Shape := ⟨1, ![2048]⟩
abbrev S1x2048 : Shape := ⟨2, ![1, 2048]⟩
abbrev S1x384x2048 : Shape := ⟨3, ![1, 384, 2048]⟩
abbrev S1x384x5632 : Shape := ⟨3, ![1, 384, 5632]⟩
abbrev S1x384 : Shape := ⟨2, ![1, 384]⟩
abbrev S128x384 : Shape := ⟨2, ![128, 384]⟩
abbrev S384x128 : Shape := ⟨2, ![384, 128]⟩
abbrev S384x2048 : Shape := ⟨2, ![384, 2048]⟩
abbrev S384x5632 : Shape := ⟨2, ![384, 5632]⟩
abbrev S384 : Shape := ⟨1, ![384]⟩
abbrev S384x1 : Shape := ⟨2, ![384, 1]⟩

abbrev nBuf : Space → Nat
  | .hbm => 9
  | .vmem => 10
  | .smem => 0
  | _ => 0

abbrev bufTy : (tb : Table) → Fin (tcTables nBuf tb) → BufTy
  | .hbm, ⟨0, _⟩ => ⟨S5x384x2048, .f32⟩
  | .hbm, ⟨1, _⟩ => ⟨S5x384x5632, .fp8e4m3⟩
  | .hbm, ⟨2, _⟩ => ⟨S5x384, .f32⟩
  | .hbm, ⟨3, _⟩ => ⟨S2048x5632, .fp8e4m3⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S5x384x2048, .bf16⟩
  | .local _ .vmem, ⟨0, _⟩ => ⟨S1x384x2048, .f32⟩
  | .local _ .vmem, ⟨1, _⟩ => ⟨S1x384x2048, .f32⟩
  | .local _ .vmem, ⟨2, _⟩ => ⟨S1x384x5632, .fp8e4m3⟩
  | .local _ .vmem, ⟨3, _⟩ => ⟨S1x384x5632, .fp8e4m3⟩
  | .local _ .vmem, ⟨4, _⟩ => ⟨S5x384, .f32⟩
  | .local _ .vmem, ⟨5, _⟩ => ⟨S2048x5632, .fp8e4m3⟩
  | .local _ .vmem, ⟨6, _⟩ => ⟨S1x2048, .f32⟩
  | .local _ .vmem, ⟨7, _⟩ => ⟨S1x2048, .f32⟩
  | .local _ .vmem, ⟨8, _⟩ => ⟨S1x384x2048, .bf16⟩
  | .local _ .vmem, ⟨9, _⟩ => ⟨S1x384x2048, .bf16⟩
  | _, _ => ⟨S5x384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x5632 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S5x384x2048 : Shape := ⟨3, ![5, 384, 2048]⟩
abbrev S5x384x5632 : Shape := ⟨3, ![5, 384, 5632]⟩
abbrev S5x384 : Shape := ⟨2, ![5, 384]⟩
abbrev S2048x5632 : Shape := ⟨2, ![2048, 5632]⟩
abbrev S2048 : Shape := ⟨1, ![2048]⟩
abbrev S1x2048 : Shape := ⟨2, ![1, 2048]⟩
abbrev S1920x5632 : Shape := ⟨2, ![1920, 5632]⟩
abbrev S1920x2048 : Shape := ⟨2, ![1920, 2048]⟩
abbrev S5x384x1 : Shape := ⟨3, ![5, 384, 1]⟩
abbrev S1x1x2048 : Shape := ⟨3, ![1, 1, 2048]⟩

abbrev nBuf : Space → Nat
  | .hbm => 9
  | .vmem => 7
  | .smem => 0
  | _ => 0

abbrev bufTy : (tb : Table) → Fin (tcTables nBuf tb) → BufTy
  | .hbm, ⟨0, _⟩ => ⟨S5x384x2048, .f32⟩
  | .hbm, ⟨1, _⟩ => ⟨S5x384x5632, .fp8e4m3⟩
  | .hbm, ⟨2, _⟩ => ⟨S5x384, .f32⟩
  | .hbm, ⟨3, _⟩ => ⟨S2048x5632, .fp8e4m3⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S5x384x2048, .bf16⟩
  | .local _ .vmem, ⟨0, _⟩ => ⟨S5x384x2048, .f32⟩
  | .local _ .vmem, ⟨1, _⟩ => ⟨S5x384x5632, .fp8e4m3⟩
  | .local _ .vmem, ⟨2, _⟩ => ⟨S5x384, .f32⟩
  | .local _ .vmem, ⟨3, _⟩ => ⟨S2048x5632, .fp8e4m3⟩
  | .local _ .vmem, ⟨4, _⟩ => ⟨S1x2048, .f32⟩
  | .local _ .vmem, ⟨5, _⟩ => ⟨S1x2048, .f32⟩
  | .local _ .vmem, ⟨6, _⟩ => ⟨S5x384x2048, .bf16⟩
  | _, _ => ⟨S5x384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5x384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Up.lean ====
abbrev S5x384x2048 : Shape := ⟨3, ![5, 384, 2048]⟩
abbrev S5x384 : Shape := ⟨2, ![5, 384]⟩
abbrev S2x5632x2048 : Shape := ⟨3, ![2, 5632, 2048]⟩
abbrev S2x5632 : Shape := ⟨2, ![2, 5632]⟩
abbrev S5632 : Shape := ⟨1, ![5632]⟩
abbrev S2x1x5632 : Shape := ⟨3, ![2, 1, 5632]⟩
abbrev S1x5632 : Shape := ⟨2, ![1, 5632]⟩
abbrev S5x384x5632 : Shape := ⟨3, ![5, 384, 5632]⟩
abbrev S1x384x2048 : Shape := ⟨3, ![1, 384, 2048]⟩
abbrev S2x512x2048 : Shape := ⟨3, ![2, 512, 2048]⟩
abbrev S2x1x512 : Shape := ⟨3, ![2, 1, 512]⟩
abbrev S1x512 : Shape := ⟨2, ![1, 512]⟩
abbrev S1x384x5632 : Shape := ⟨3, ![1, 384, 5632]⟩
abbrev S11x384x512 : Shape := ⟨3, ![11, 384, 512]⟩
abbrev S384x128 : Shape := ⟨2, ![384, 128]⟩
abbrev S1x384 : Shape := ⟨2, ![1, 384]⟩
abbrev S128x384 : Shape := ⟨2, ![128, 384]⟩
abbrev S384x512 : Shape := ⟨2, ![384, 512]⟩
abbrev S384x2048 : Shape := ⟨2, ![384, 2048]⟩
abbrev S1x512x2048 : Shape := ⟨3, ![1, 512, 2048]⟩
abbrev S512x2048 : Shape := ⟨2, ![512, 2048]⟩
abbrev S1x1x512 : Shape := ⟨3, ![1, 1, 512]⟩
abbrev S1x384x512 : Shape := ⟨3, ![1, 384, 512]⟩
abbrev S384 : Shape := ⟨1, ![384]⟩
abbrev S384x1 : Shape := ⟨2, ![384, 1]⟩

abbrev nBuf : Space → Nat
  | .hbm => 11
  | .vmem => 16
  | .smem => 0
  | _ => 0

abbrev bufTy : (tb : Table) → Fin (tcTables nBuf tb) → BufTy
  | .hbm, ⟨0, _⟩ => ⟨S5x384x2048, .fp8e4m3⟩
  | .hbm, ⟨1, _⟩ => ⟨S5x384, .f32⟩
  | .hbm, ⟨2, _⟩ => ⟨S2x5632x2048, .fp8e4m3⟩
  | .hbm, ⟨3, _⟩ => ⟨S2x5632, .f32⟩
  | .hbm, ⟨4, _⟩ => ⟨S5632, .f32⟩
  | .hbm, ⟨5, _⟩ => ⟨S5632, .f32⟩
  | .hbm, ⟨6, _⟩ => ⟨S2x1x5632, .f32⟩
  | .hbm, ⟨7, _⟩ => ⟨S1x5632, .f32⟩
  | .hbm, ⟨8, _⟩ => ⟨S1x5632, .f32⟩
  | .hbm, ⟨9, _⟩ => ⟨S5x384x5632, .fp8e4m3⟩
  | .hbm, ⟨10, _⟩ => ⟨S5x384, .f32⟩
  | .local _ .vmem, ⟨0, _⟩ => ⟨S1x384x2048, .fp8e4m3⟩
  | .local _ .vmem, ⟨1, _⟩ => ⟨S1x384x2048, .fp8e4m3⟩
  | .local _ .vmem, ⟨2, _⟩ => ⟨S5x384, .f32⟩
  | .local _ .vmem, ⟨3, _⟩ => ⟨S2x512x2048, .fp8e4m3⟩
  | .local _ .vmem, ⟨4, _⟩ => ⟨S2x512x2048, .fp8e4m3⟩
  | .local _ .vmem, ⟨5, _⟩ => ⟨S2x1x512, .f32⟩
  | .local _ .vmem, ⟨6, _⟩ => ⟨S2x1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x384x5632, .fp8e4m3⟩
  | .local _ .vmem, ⟨12, _⟩ => ⟨S1x384x5632, .fp8e4m3⟩
  | .local _ .vmem, ⟨13, _⟩ => ⟨S5x384, .f32⟩
  | .local _ .vmem, ⟨14, _⟩ => ⟨S11x384x512, .f32⟩
  | .local _ .vmem, ⟨15, _⟩ => ⟨S384x128, .f32⟩
  | _, _ => ⟨S5x384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![5, 11], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 3 → Nat :=
  let arg1 : BitVec 32 := BitVec.ofNat 32 (i 1).val
  let v39 : Index := Scalar.indexCast arg1
  let c0_23 : Index := 0#32
  let c0_24 : Index := 0#32
  ![v39.toNat, 0, 0]
def k0_cond3 (i : grid0.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_28 : BitVec 32 := 0#32
  let v59 : BitVec 1 := Scalar.cmpi .ne v58 c0_i32_28
  v59

def k0_off3 (i : grid0.Coords) : Fin 2 → Nat :=
  let arg0 : BitVec 32 := BitVec.ofNat 32 (i 0).val
  let v145 : Index := Scalar.indexCast arg0
  let c0_46 : Index := 0#32
  ![v145.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x384x5632 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S5x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpRefIdeal.lean ====
abbrev S5x384x2048 : Shape := ⟨3, ![5, 384, 2048]⟩
abbrev S5x384 : Shape := ⟨2, ![5, 384]⟩
abbrev S2x5632x2048 : Shape := ⟨3, ![2, 5632, 2048]⟩
abbrev S2x5632 : Shape := ⟨2, ![2, 5632]⟩
abbrev S5632 : Shape := ⟨1, ![5632]⟩
abbrev S1x5632 : Shape := ⟨2, ![1, 5632]⟩
abbrev S5x384x5632 : Shape := ⟨3, ![5, 384, 5632]⟩
abbrev S1920x2048 : Shape := ⟨2, ![1920, 2048]⟩
abbrev S1x1x5632 : Shape := ⟨3, ![1, 1, 5632]⟩
abbrev S1x5632x2048 : Shape := ⟨3, ![1, 5632, 2048]⟩
abbrev S5632x2048 : Shape := ⟨2, ![5632, 2048]⟩
abbrev S1920x5632 : Shape := ⟨2, ![1920, 5632]⟩
abbrev S5x384x1 : Shape := ⟨3, ![5, 384, 1]⟩

abbrev nBuf : Space → Nat
  | .hbm => 10
  | .vmem => 8
  | .smem => 0
  | _ => 0

abbrev bufTy : (tb : Table) → Fin (tcTables nBuf tb) → BufTy
  | .hbm, ⟨0, _⟩ => ⟨S5x384x2048, .fp8e4m3⟩
  | .hbm, ⟨1, _⟩ => ⟨S5x384, .f32⟩
  | .hbm, ⟨2, _⟩ => ⟨S2x5632x2048, .fp8e4m3⟩
  | .hbm, ⟨3, _⟩ => ⟨S2x5632, .f32⟩
  | .hbm, ⟨4, _⟩ => ⟨S5632, .f32⟩
  | .hbm, ⟨5, _⟩ => ⟨S5632, .f32⟩
  | .hbm, ⟨6, _⟩ => ⟨S1x5632, .f32⟩
  | .hbm, ⟨7, _⟩ => ⟨S1x5632, .f32⟩
  | .hbm, ⟨8, _⟩ => ⟨S5x384x5632, .fp8e4m3⟩
  | .hbm, ⟨9, _⟩ => ⟨S5x384, .f32⟩
  | .local _ .vmem, ⟨0, _⟩ => ⟨S5x384x2048, .fp8e4m3⟩
  | .local _ .vmem, ⟨1, _⟩ => ⟨S5x384, .f32⟩
  | .local _ .vmem, ⟨2, _⟩ => ⟨S2x5632x2048, .fp8e4m3⟩
  | .local _ .vmem, ⟨3, _⟩ => ⟨S2x5632, .f32⟩
  | .local _ .vmem, ⟨4, _⟩ => ⟨S1x5632, .f32⟩
  | .local _ .vmem, ⟨5, _⟩ => ⟨S1x5632, .f32⟩
  | .local _ .vmem, ⟨6, _⟩ => ⟨S5x384x5632, .fp8e4m3⟩
  | .local _ .vmem, ⟨7, _⟩ => ⟨S5x384, .f32⟩
  | _, _ => ⟨S5x384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5x384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x5632x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x384x5632 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proj.lean ====
abbrev S5x384x2048 : Shape := ⟨3, ![5, 384, 2048]⟩
abbrev S5x384 : Shape := ⟨2, ![5, 384]⟩
abbrev S2048x16x128 : Shape := ⟨3, ![2048, 16, 128]⟩
abbrev S2048 : Shape := ⟨1, ![2048]⟩
abbrev S2048x2048 : Shape := ⟨2, ![2048, 2048]⟩
abbrev S1x2048 : Shape := ⟨2, ![1, 2048]⟩
abbrev S1x384x2048 : Shape := ⟨3, ![1, 384, 2048]⟩
abbrev S1x384 : Shape := ⟨2, ![1, 384]⟩
abbrev S128x384 : Shape := ⟨2, ![128, 384]⟩
abbrev S384x128 : Shape := ⟨2, ![384, 128]⟩
abbrev S384x2048 : Shape := ⟨2, ![384, 2048]⟩
abbrev S384 : Shape := ⟨1, ![384]⟩
abbrev S384x1 : Shape := ⟨2, ![384, 1]⟩

abbrev nBuf : Space → Nat
  | .hbm => 12
  | .vmem => 13
  | .smem => 0
  | _ => 0

abbrev bufTy : (tb : Table) → Fin (tcTables nBuf tb) → BufTy
  | .hbm, ⟨0, _⟩ => ⟨S5x384x2048, .bf16⟩
  | .hbm, ⟨1, _⟩ => ⟨S5x384x2048, .fp8e4m3⟩
  | .hbm, ⟨2, _⟩ => ⟨S5x384, .f32⟩
  | .hbm, ⟨3, _⟩ => ⟨S2048x16x128, .fp8e4m3⟩
  | .hbm, ⟨4, _⟩ => ⟨S2048, .f32⟩
  | .hbm, ⟨5, _⟩ => ⟨S2048, .f32⟩
  | .hbm, ⟨6, _⟩ => ⟨S2048x2048, .fp8e4m3⟩
  | .hbm, ⟨7, _⟩ => ⟨S1x2048, .f32⟩
  | .hbm, ⟨8, _⟩ => ⟨S1x2048, .f32⟩
  | .hbm, ⟨9, _⟩ => ⟨S5x384x2048, .f32⟩
  | .hbm, ⟨10, _⟩ => ⟨S5x384x2048, .fp8e4m3⟩
  | .hbm, ⟨11, _⟩ => ⟨S5x384, .f32⟩
  | .local _ .vmem, ⟨0, _⟩ => ⟨S1x384x2048, .bf16⟩
  | .local _ .vmem, ⟨1, _⟩ => ⟨S1x384x2048, .bf16⟩
  | .local _ .vmem, ⟨2, _⟩ => ⟨S1x384x2048, .fp8e4m3⟩
  | .local _ .vmem, ⟨3, _⟩ => ⟨S1x384x2048, .fp8e4m3⟩
  | .local _ .vmem, ⟨4, _⟩ => ⟨S5x384, .f32⟩
  | .local _ .vmem, ⟨5, _⟩ => ⟨S2048x2048, .fp8e4m3⟩
  | .local _ .vmem, ⟨6, _⟩ => ⟨S1x2048, .f32⟩
  | .local _ .vmem, ⟨7, _⟩ => ⟨S1x2048, .f32⟩
  | .local _ .vmem, ⟨8, _⟩ => ⟨S1x384x2048, .f32⟩
  | .local _ .vmem, ⟨9, _⟩ => ⟨S1x384x2048, .f32⟩
  | .local _ .vmem, ⟨10, _⟩ => ⟨S1x384x2048, .fp8e4m3⟩
  | .local _ .vmem, ⟨11, _⟩ => ⟨S1x384x2048, .fp8e4m3⟩
  | .local _ .vmem, ⟨12, _⟩ => ⟨S5x384, .f32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x384x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S5x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ProjRefIdeal.lean ====
abbrev S5x384x2048 : Shape := ⟨3, ![5, 384, 2048]⟩
abbrev S5x384 : Shape := ⟨2, ![5, 384]⟩
abbrev S2048x16x128 : Shape := ⟨3, ![2048, 16, 128]⟩
abbrev S2048 : Shape := ⟨1, ![2048]⟩
abbrev S2048x2048 : Shape := ⟨2, ![2048, 2048]⟩
abbrev S1x2048 : Shape := ⟨2, ![1, 2048]⟩
abbrev S1920x2048 : Shape := ⟨2, ![1920, 2048]⟩
abbrev S5x384x1 : Shape := ⟨3, ![5, 384, 1]⟩
abbrev S1x1x2048 : Shape := ⟨3, ![1, 1, 2048]⟩

abbrev nBuf : Space → Nat
  | .hbm => 12
  | .vmem => 9
  | .smem => 0
  | _ => 0

abbrev bufTy : (tb : Table) → Fin (tcTables nBuf tb) → BufTy
  | .hbm, ⟨0, _⟩ => ⟨S5x384x2048, .bf16⟩
  | .hbm, ⟨1, _⟩ => ⟨S5x384x2048, .fp8e4m3⟩
  | .hbm, ⟨2, _⟩ => ⟨S5x384, .f32⟩
  | .hbm, ⟨3, _⟩ => ⟨S2048x16x128, .fp8e4m3⟩
  | .hbm, ⟨4, _⟩ => ⟨S2048, .f32⟩
  | .hbm, ⟨5, _⟩ => ⟨S2048, .f32⟩
  | .hbm, ⟨6, _⟩ => ⟨S2048x2048, .fp8e4m3⟩
  | .hbm, ⟨7, _⟩ => ⟨S1x2048, .f32⟩
  | .hbm, ⟨8, _⟩ => ⟨S1x2048, .f32⟩
  | .hbm, ⟨9, _⟩ => ⟨S5x384x2048, .f32⟩
  | .hbm, ⟨10, _⟩ => ⟨S5x384x2048, .fp8e4m3⟩
  | .hbm, ⟨11, _⟩ => ⟨S5x384, .f32⟩
  | .local _ .vmem, ⟨0, _⟩ => ⟨S5x384x2048, .bf16⟩
  | .local _ .vmem, ⟨1, _⟩ => ⟨S5x384x2048, .fp8e4m3⟩
  | .local _ .vmem, ⟨2, _⟩ => ⟨S5x384, .f32⟩
  | .local _ .vmem, ⟨3, _⟩ => ⟨S2048x2048, .fp8e4m3⟩
  | .local _ .vmem, ⟨4, _⟩ => ⟨S1x2048, .f32⟩
  | .local _ .vmem, ⟨5, _⟩ => ⟨S1x2048, .f32⟩
  | .local _ .vmem, ⟨6, _⟩ => ⟨S5x384x2048, .f32⟩
  | .local _ .vmem, ⟨7, _⟩ => ⟨S5x384x2048, .fp8e4m3⟩
  | .local _ .vmem, ⟨8, _⟩ => ⟨S5x384, .f32⟩
  | _, _ => ⟨S5x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5x384x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x384x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x384x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x384x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Rows.lean ====
/-
  The layer's row mathematics over the extended reals: one token's row at a time.
-/
module

public import Idealize.ShloMosaic.Lib.Pointwise

@[expose] public section

noncomputable section

open Idealize.ShloMosaic

namespace Cert.Rows

/-- The constant both programs add to a sum of squares: f32's nearest to 1e-12. -/
def eps : EReal := Ideal.ofBits FTy.f32 730643660#32

/-- A row over its l2 norm: `v / sqrt(Σ v² + eps)`. -/
def l2norm {n : Nat} (v : Fin n → EReal) (k : Fin n) : EReal :=
  v k * Ideal.rsqrt ((∑ x, v x * v x) + eps)

/-- A dequantised product: the row of codes `a` against row `k` of the weight's codes, times the row's scale, times the
    weight row's scale. -/
def product {n d : Nat} (a : Fin d → EReal) (w : Fin n → Fin d → EReal) (s : EReal) (ws : Fin n → EReal) (k : Fin n) :
    EReal :=
  (∑ x, a x * w k x) * s * ws k

/-- The residual step on the sphere: `l2norm(h + alpha (l2norm(p) - h))`. -/
def step {n : Nat} (h alpha p : Fin n → EReal) : Fin n → EReal :=
  l2norm fun k => h k + alpha k * (l2norm p k - h k)

end Cert.Rows

end
-- ==== Proof.DownBlock.lean ====
/-
  The down projection: what one block of the kernel, and the reference as a whole, compute at an index.

  Both are `step h1 alpha (product codes w scale ws)` of the token's row (Rows.lean).
-/
module

public import proofs.«01_k».proof.Proof.Gen.DownIdeal.Value
public import proofs.«01_k».proof.Proof.Gen.DownRefIdeal.Value
public import proofs.«01_k».proof.Proof.Rows
public import Idealize.ShloMosaic.Lib.Pointwise

@[expose] public section

set_option maxRecDepth 16384

noncomputable section

open Idealize.ShloMosaic

namespace Cert.DownEq

open Cert.Rows

/-- One token's result row from its `h1` row, its codes and scale, the weight's codes and scales, and alpha. -/
def rowOf (h1 : Fin 2048 → EReal) (mc : Fin 5632 → EReal) (ms : EReal) (w : Fin 2048 → Fin 5632 → EReal)
    (ws alpha : Fin 2048 → EReal) : Fin 2048 → EReal :=
  step h1 alpha (product mc w ms ws)

theorem rowOf_congr {h1 h1' : Fin 2048 → EReal} {mc mc' : Fin 5632 → EReal} {ms ms' : EReal}
    {w w' : Fin 2048 → Fin 5632 → EReal} {ws ws' alpha alpha' : Fin 2048 → EReal} {k k' : Fin 2048}
    (hh : ∀ x, h1 x = h1' x) (hc : ∀ x, mc x = mc' x) (hs : ms = ms') (hw : ∀ n x, w n x = w' n x)
    (hws : ∀ n, ws n = ws' n) (ha : ∀ n, alpha n = alpha' n) (hk : k = k') :
    rowOf h1 mc ms w ws alpha k = rowOf h1' mc' ms' w' ws' alpha' k' := by
  obtain rfl := funext hh; obtain rfl := funext hc; obtain rfl := hs
  obtain rfl := funext fun n => funext (hw n); obtain rfl := funext hws; obtain rfl := funext ha; obtain rfl := hk
  rfl

/-- The kernel's stored block at row `r`, from the loaded values. -/
theorem kernel_block (v1 : Vec Ideal Cert.DownIdeal.S1x384 .f32) (v6 : Vec Ideal Cert.DownIdeal.S1x384x5632 .fp8e4m3)
    (v8 : Vec Ideal Cert.DownIdeal.S2048x5632 .fp8e4m3) (v11 : Vec Ideal Cert.DownIdeal.S1x2048 .f32)
    (v23 : Vec Ideal Cert.DownIdeal.S1x384x2048 .f32) (v25 : Vec Ideal Cert.DownIdeal.S1x2048 .f32)
    (z : Fin 1) (r : Fin 384) (k : Fin 2048) :
    Cert.DownIdeal.Gen.k0_pay1 (Cert.DownIdeal.Gen.k0_pay2 v1 v6 v8 v11 v23 v25) (ix3 z r k)
      = rowOf (fun x => v23 (ix3 0 r x)) (fun x => v6 (ix3 0 r x)) (v1 (ix2 0 r)) (fun n x => v8 (ix2 n x))
          (fun n => v11 (ix2 0 n)) (fun n => v25 (ix2 0 n)) k := by
  pointwise [Cert.DownIdeal.Gen.k0_pay1, Cert.DownIdeal.Gen.k0_pay2]
  simp only [dite_eq_ite, ite_self]
  rfl

/-- The reference's stored array at token `(b, r)`, from the loaded values. -/
theorem ref_block (v0 : Vec Ideal Cert.DownRefIdeal.S5x384x5632 .fp8e4m3)
    (v2 : Vec Ideal Cert.DownRefIdeal.S2048x5632 .fp8e4m3) (v5 : Vec Ideal Cert.DownRefIdeal.S5x384 .f32)
    (v9 : Vec Ideal Cert.DownRefIdeal.S1x2048 .f32) (v14 : Vec Ideal Cert.DownRefIdeal.S5x384x2048 .f32)
    (v15 : Vec Ideal Cert.DownRefIdeal.S1x2048 .f32) (b : Fin 5) (r : Fin 384) (k : Fin 2048) :
    Cert.DownRefIdeal.Gen.k0_pay1 v0 v2 v5 v9 v14 v15 (ix3 b r k)
      = rowOf (fun x => v14 (ix3 b r x)) (fun x => v0 (ix3 b r x)) (v5 (ix2 b r)) (fun n x => v2 (ix2 n x))
          (fun n => v9 (ix2 0 n)) (fun n => v15 (ix2 0 n)) k := by
  pointwise [Cert.DownRefIdeal.Gen.k0_pay1]
  rfl

end Cert.DownEq

end
-- ==== Proof.DownValue.lean ====
/-
  The down projection: what the result array holds after the kernel's run and after the reference's, and that the two
  are one function of the arguments.
-/
module

public import proofs.«01_k».proof.Proof.DownBlock
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownEq

open Cert.Rows

/-- The result array as one function of the argument arrays. -/
def result (h1 : FVec Ideal Cert.DownIdeal.S5x384x2048 .f32) (mc : FVec Ideal Cert.DownIdeal.S5x384x5632 .fp8e4m3)
    (ms : FVec Ideal Cert.DownIdeal.S5x384 .f32) (w : FVec Ideal Cert.DownIdeal.S2048x5632 .fp8e4m3)
    (ws alpha : FVec Ideal Cert.DownIdeal.S2048 .f32) : FVec Ideal Cert.DownIdeal.S5x384x2048 .bf16 :=
  fun i => rowOf (fun x => h1 (ix3 (i 0) (i 1) x)) (fun x => mc (ix3 (i 0) (i 1) x)) (ms (ix2 (i 0) (i 1)))
    (fun n x => w (ix2 n x)) (fun n => ws (ix1 n)) (fun n => alpha (ix1 n)) (i 2)

end Cert.DownEq

namespace Cert.DownIdeal.Result

open Cert.DownIdeal Cert.DownIdeal.Gen

variable (m : (ℓ : Loc nD τ sig) → Buf (Elt Ideal) ℓ)

theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![t.val, 0, 0] ∧ k0_off1 (grid0.coords t) = ![t.val, 0] :=
  (by decide +kernel)

/-- The kernel's result array after the run. -/
theorem final (c : Dev nD) : (dats m 0 c).arrAt 6 cfg0.N
    = Cert.DownEq.result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  frame_out
  idx_vars y
  rw [Cert.DownEq.kernel_block]
  refine Cert.DownEq.rowOf_congr (fun x => ?_) (fun x => ?_) ?_ (fun n x => ?_) (fun n => ?_) (fun n => ?_) ?_
  · blk_ext [iblk, V, idx t]
  · blk_ext [iblk, V, idx t]
  · refine (View.ld_unit_apply_of (S := S5x384) _ _ _ _ _ (ix2 (⟨t.val, t.isLt.trans_eq N_0⟩ : Fin 5) y1)
      fun a => ?_).trans ?_
    · have e := congrFun (idx t).2.2.2.2.2.2.2 a
      match a with
      | ⟨0, _⟩ => exact ((congrArg (· + 0) e).trans rfl).symm
      | ⟨1, _⟩ => exact ((congrArg (· + y1.val) e).trans (Nat.zero_add _)).symm
    · blk_ext [iblk, V, idx t]
  · blk_ext [iblk, V, idx t]
  · blk_simp [iblk, idx t]; unfold V; entry_read; pointwise; blk_ext [idx t]
  · blk_simp [iblk, idx t]; unfold V; entry_read; pointwise; blk_ext [idx t]
  · apply Fin.ext; blk_simp [idx t]

end Cert.DownIdeal.Result

namespace Cert.DownRefIdeal.Result

open Cert.DownRefIdeal Cert.DownRefIdeal.Gen

variable (m : (ℓ : Loc nD τ sig) → Buf (Elt Ideal) ℓ)

theorem idx : ∀ t : Fin cfg0.N, win0_0.index t = ![0, 0, 0] ∧ win0_1.index t = ![0, 0, 0]
    ∧ win0_2.index t = ![0, 0] ∧ win0_3.index t = ![0, 0] ∧ win0_4.index t = ![0, 0] ∧ win0_5.index t = ![0, 0]
    ∧ win0_6.index t = ![0, 0, 0] :=
  (by decide +kernel)

/-- The reference's result array after the run. -/
theorem final (c : Dev nD) : (dats m 0 c).arrAt 6 cfg0.N
    = Cert.DownEq.result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  blk_simp
  rw [after0_6]
  frame_out
  idx_vars y
  rw [Cert.DownEq.ref_block]
  refine Cert.DownEq.rowOf_congr (fun x => ?_) (fun x => ?_) ?_ (fun n x => ?_) (fun n => ?_) (fun n => ?_) ?_
  · blk_ext [iblk, V, idx t]
  · blk_ext [iblk, V, idx t]
  · blk_ext [iblk, V, idx t]
  · blk_ext [iblk, V, idx t]
  · blk_simp [iblk, idx t]; unfold V; entry_read; pointwise; blk_ext [idx t]
  · blk_simp [iblk, idx t]; unfold V; entry_read; pointwise; blk_ext [idx t]
  · apply Fin.ext; blk_simp [idx t]

end Cert.DownRefIdeal.Result

namespace Cert.DownEq

/-- From memories agreeing on the arguments the kernel and the reference end with the same result. -/
theorem algebraic : Cert.algebraic_DownIdeal_DownRefIdeal := by
  intro m ρ m' ρ' _ hagree
  refine ⟨_, (θ_run Cert.DownIdeal.defs _ _).mono
      (fun _ h c => ⟨(h c).1.trans (Cert.DownIdeal.Result.final m c), (h c).2⟩)
      (Cert.DownIdeal.Value.run_blocks (F := Ideal) m ρ),
    (θ_run Cert.DownRefIdeal.defs _ _).mono
      (fun _ h c => ⟨(h c).1.trans ((Cert.DownRefIdeal.Result.final m' c).trans ?_), (h c).2⟩)
      (Cert.DownRefIdeal.Value.run_blocks (F := Ideal) m' ρ')⟩
  obtain ⟨h0, h1, h2, h3, h4, h5⟩ := hagree c
  rw [h0, h1, h2, h3, h4, h5]

end Cert.DownEq

end
-- ==== Proof.UpParts.lean ====
module

public import proofs.«01_k».proof.Proof.Gen.Up.Skeleton
public import proofs.«01_k».proof.Proof.Gen.Up.Frame

@[expose] public section

set_option maxRecDepth 16384

noncomputable section

namespace Cert.Up.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Up.Gen

variable {F : FTy → Type} [FloatOps F]

local notation "𝕄" => MT nD τ sig Unit (Elt F) ℕ (UR sig nD τ) ℕ

variable (m : (ℓ : Loc nD τ sig) → Buf (Elt F) ℓ)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 55 := Nat.lt_of_lt_of_eq t.isLt N_0
    have e0 : (grid0.coords t 0).val = t.val / 11 % 5 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 11 :=
  (by decide +kernel : ∀ t : Fin grid0.N, cond0_1 (grid0.coords t) ↔ 1 ≤ t.val % 11)

/-- The condition of the body's `scf.if` 2 (`k0_h3`), from the grid coordinates (the skeleton's scalar
    chain substituted). -/
abbrev cond0_2 (i : grid0.Coords) : Prop := k0_cond3 i = 1#1
/-- It holds at the points ≡ 10 (mod 11) — by arithmetic of the point. -/
theorem hcond0_2 : ∀ t : Fin cfg0.N, cond0_2 (grid0.coords t) ↔ t.val % 11 = 10 :=
  (fun t => by
    have ht : t.val < 55 := Nat.lt_of_lt_of_eq t.isLt N_0
    have e0 : (grid0.coords t 0).val = t.val / 11 % 5 := Pipeline.Grid.coords_val t 0 (by decide) rfl
    have e1 : (grid0.coords t 1).val = t.val / 1 % 11 := Pipeline.Grid.coords_val t 1 (by decide) rfl
    simp only [cond0_2, k0_cond3, e0, e1]
    word_cmp
   : ∀ t : Fin grid0.N, cond0_2 (grid0.coords t) ↔ t.val % 11 = 10)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x384x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384x5632 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x384 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S11x384x512 .f32 := Memref.whole cc0_scratch0
abbrev scM0_1 : Memref sig .tc .vmem S384x128 .f32 := Memref.whole cc0_scratch1
/-- The scratch `arg11` the kernel carries between points, as a view: what it holds is stated through it. -/
abbrev VS0_1 : View sig .tc .vmem S384x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Up.Run

end
-- ==== Proof.UpRunA.lean ====
module

public import proofs.«01_k».proof.Proof.UpParts

@[expose] public section

set_option maxRecDepth 16384

noncomputable section

namespace Cert.Up.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Up.Gen

variable {F : FTy → Type} [FloatOps F]

local notation "𝕄" => MT nD τ sig Unit (Elt F) ℕ (UR sig nD τ) ℕ

set_option maxHeartbeats 4000000 in
/-- The body at the first feed-forward block of a batch entry, on whole memrefs with named contents: what it stores in each buffer, as pieces, the last first,
    with the proof that it runs and leaves the buffers with just those pieces written. -/
noncomputable def runA (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (hc0 : cond0_0 i) (hc1 : ¬cond0_1 i) (hc2 : ¬cond0_2 i)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32) :
    Σ' (LS0 : List (View.Piece (Elt F) S11x384x512 .f32)), { LS1 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread s0) LS0) ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mlp_up_eq_skeleton]; unfold cc0_mlp_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexact HS1

end Cert.Up.Run

end
-- ==== Proof.UpRunB.lean ====
module

public import proofs.«01_k».proof.Proof.UpRunA

@[expose] public section

set_option maxRecDepth 16384

noncomputable section

namespace Cert.Up.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Up.Gen

variable {F : FTy → Type} [FloatOps F]

local notation "𝕄" => MT nD τ sig Unit (Elt F) ℕ (UR sig nD τ) ℕ

set_option maxHeartbeats 4000000 in
/-- The body at a middle block, on whole memrefs with named contents: what it stores in each buffer, as pieces, the last first,
    with the proof that it runs and leaves the buffers with just those pieces written. -/
noncomputable def runB (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (hc0 : ¬cond0_0 i) (hc1 : cond0_1 i) (hc2 : ¬cond0_2 i)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32) :
    Σ' (LS0 : List (View.Piece (Elt F) S11x384x512 .f32)), { LS1 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread s0) LS0) ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mlp_up_eq_skeleton]; unfold cc0_mlp_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexact HS1

end Cert.Up.Run

end
-- ==== Proof.UpRunC.lean ====
module

public import proofs.«01_k».proof.Proof.UpRunB

@[expose] public section

set_option maxRecDepth 16384

noncomputable section

namespace Cert.Up.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Up.Gen

variable {F : FTy → Type} [FloatOps F]

local notation "𝕄" => MT nD τ sig Unit (Elt F) ℕ (UR sig nD τ) ℕ

set_option maxHeartbeats 4000000 in
/-- The body at the last block, on whole memrefs with named contents: what it stores in each buffer, as pieces, the last first,
    with the proof that it runs and leaves the buffers with just those pieces written. -/
noncomputable def runC (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (hc0 : ¬cond0_0 i) (hc1 : cond0_1 i) (hc2 : cond0_2 i)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32) :
    Σ' (L6 : List (View.Piece (Elt F) S1x384x5632 .fp8e4m3)) (L7 : List (View.Piece (Elt F) S5x384 .f32)) (LS0 : List (View.Piece (Elt F) S11x384x512 .f32)), { LS1 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread s0) LS0) ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_mlp_up_eq_skeleton]; unfold cc0_mlp_up_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexact H7
    isplitl [HS0]; · iexact HS0
    iexact HS1

end Cert.Up.Run

end
-- ==== Proof.UpTile.lean ====
module

public import proofs.«01_k».proof.Proof.UpRunC
public import Idealize.ShloMosaic.Lib.Pipeline.ValueKit
public import Idealize.ShloMosaic.Lib.WritesUnit

@[expose] public section

set_option maxRecDepth 16384

noncomputable section

namespace Cert.Up.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Up.Gen

variable {F : FTy → Type} [FloatOps F]

local notation "𝕄" => MT nD τ sig Unit (Elt F) ℕ (UR sig nD τ) ℕ

/-- The dequantised gate product of one block of 512 feed-forward columns, as the body computes it from its input blocks. -/
abbrev gate (i : grid0.Coords) (x0 : Vec F S1x384x2048 .fp8e4m3) (x1 : Vec F S5x384 .f32) (x2 : Vec F S2x512x2048 .fp8e4m3) (x3 : Vec F S2x1x512 .f32) : FVec F S384x512 .f32 :=
  k0_pay24 (View.ld x1 (Rect.unit (k0_off1 i) S1x384.size (k0_off1_inb i)))
    x0
    (View.ld x2 (Rect.unit ![1, 0, 0] S1x512x2048.size inb_S2x512x2048_S1x512x2048_1_0_0))
    (View.ld x3 (Rect.unit ![1, 0, 0] S1x1x512.size inb_S2x1x512_S1x1x512_1_0_0))

/-- The scaled and dequantised up product of the block. -/
abbrev up (i : grid0.Coords) (x0 : Vec F S1x384x2048 .fp8e4m3) (x1 : Vec F S5x384 .f32) (x2 : Vec F S2x512x2048 .fp8e4m3) (x3 : Vec F S2x1x512 .f32) (x4 : Vec F S1x512 .f32) : FVec F S384x512 .f32 :=
  k0_pay25 (View.ld x1 (Rect.unit (k0_off1 i) S1x384.size (k0_off1_inb i)))
    x0
    (View.ld x2 (Rect.unit ![0, 0, 0] S1x512x2048.size inb_S2x512x2048_S1x512x2048_0_0_0))
    (View.ld x3 (Rect.unit ![0, 0, 0] S1x1x512.size inb_S2x1x512_S1x1x512_0_0_0))
    x4

/-- The constant the body multiplies `s_v` by. -/
abbrev root : F .f32 := FloatOps.ofBits .f32 1110770931#32

/-- The block of `m` that the body stores in its scratch. -/
def tile (i : grid0.Coords) (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32) : FVec F S1x384x512 .f32 :=
  k0_pay2 (gate i x0 x1 x2 x3) (up i x0 x1 x2 x3 x4) (k0_pay26 x5) root

/-- The largest magnitude of the block in each lane of 128. -/
def part (i : grid0.Coords) (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32) : FVec F S384x128 .f32 :=
  k0_pay4 (gate i x0 x1 x2 x3) (up i x0 x1 x2 x3 x4) (k0_pay26 x5) root

/-- The larger of that and what the blocks before left. -/
def partOver (i : grid0.Coords) (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (s1 : Vec F S384x128 .f32) : FVec F S384x128 .f32 :=
  k0_pay5 (gate i x0 x1 x2 x3) (up i x0 x1 x2 x3 x4) (k0_pay26 x5) root s1

/-- The row of scales from the lanes' largest magnitudes. -/
def scaleRow (a : Vec F S384x128 .f32) : FVec F S1x384 .f32 := k0_pay12 (k0_pay8 a) (k0_pay9 a) k0_pay10

/-- A block's codes from the lanes' largest magnitudes and the block. -/
def codes (a : Vec F S384x128 .f32) (T : Vec F S1x384x512 .f32) : FVec F S1x384x512 .fp8e4m3 :=
  k0_pay14 (k0_pay13 (k0_pay8 a) (k0_pay9 a) k0_pay10) T

/-- The scratch with the block `T` put at the point's position. -/
def put (i : grid0.Coords) (s0 : Vec F S11x384x512 .f32) (T : FVec F S1x384x512 .f32) : Vec F S11x384x512 .f32 :=
  fun y => if (y 0).val = (i 1).val then T (ValueIdx.ix3 (0 : Fin 1) (y 1) (y 2)) else s0 y

/-- Where the body writes in the scratch. -/
theorem off2_eq : ∀ i : grid0.Coords, k0_off2 i = ![(i 1).val, 0, 0] := by decide +kernel
/-- Where it writes in the scales. -/
theorem off3_eq : ∀ i : grid0.Coords, k0_off3 i = ![(i 0).val, 0] := by decide +kernel

/-- A block stored in the scratch, read back. -/
theorem read_put (v : View sig .tc .vmem S11x384x512 .f32) (f : v.ty.Contents (Elt F)) (i : grid0.Coords) (s0 : Vec F S11x384x512 .f32)
    (hf : v.read (Elt F) f = s0) (T : FVec F S1x384x512 .f32) :
    v.read (Elt F) (v.writes (Elt F) f [⟨Rect.unit (s := S11x384x512) (k0_off2 i) S1x384x512.size (k0_off2_inb i), T⟩]) = put i s0 T := by
  funext y
  unfold put
  split
  · rename_i h
    refine View.read_writes_cons_unit_of_mem v f _ T [] y (ValueIdx.ix3 (0 : Fin 1) (y 1) (y 2)) (off2_eq i) fun a => ?_
    match a with
    | ⟨0, _⟩ => exact h
    | ⟨1, _⟩ => exact (Nat.zero_add _).symm
    | ⟨2, _⟩ => exact (Nat.zero_add _).symm
  · rename_i h
    refine (View.read_writes_cons_unit_of_not_mem v f _ T [] y (off2_eq i) 0 ?_).trans (congrFun hf y)
    show (y 0).val < (i 1).val ∨ (i 1).val + 1 ≤ (y 0).val
    omega

/-- The lanes' magnitudes stored, read back. -/
theorem read_all (v : View sig .tc .vmem S384x128 .f32) (f : v.ty.Contents (Elt F)) (w : FVec F S384x128 .f32) :
    v.read (Elt F) (v.writes (Elt F) f [⟨Rect.unit (s := S384x128) ![0, 0] S384x128.size inb_S384x128_S384x128_0_0, w⟩]) = w := by
  funext y
  refine View.read_writes_cons_unit_of_mem v f _ w [] y y rfl fun a => ?_
  match a with
  | ⟨0, _⟩ => exact (Nat.zero_add _).symm
  | ⟨1, _⟩ => exact (Nat.zero_add _).symm

variable (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32)

theorem A_s0 (hc0 : cond0_0 i) (hc1 : ¬cond0_1 i) (hc2 : ¬cond0_2 i) :
    arg10.view.read (Elt F) (arg10.view.writes (Elt F) (harg10.unread s0) (runA c i arg2 harg2 arg3 harg3 arg4 harg4 arg5 harg5 arg6 harg6 arg7 harg7 arg8 harg8 arg9 harg9 arg10 harg10 arg11 harg11 hc0 hc1 hc2 x0 x1 x2 x3 x4 x5 x6 x7 s0 s1).1)
      = put i s0 (tile i x0 x1 x2 x3 x4 x5) := by
  refine Eq.trans ?_ (read_put arg10.view (harg10.unread s0) i s0 (harg10.read_unread s0) (tile i x0 x1 x2 x3 x4 x5))
  unfold tile
  frame_out

theorem A_s1 (hc0 : cond0_0 i) (hc1 : ¬cond0_1 i) (hc2 : ¬cond0_2 i) :
    arg11.view.read (Elt F) (arg11.view.writes (Elt F) (harg11.unread s1) (runA c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.1)
      = part i x0 x1 x2 x3 x4 x5 := by
  refine Eq.trans ?_ (read_all arg11.view (harg11.unread s1) (part i x0 x1 x2 x3 x4 x5))
  unfold part
  frame_out

theorem B_s0 (hc0 : ¬cond0_0 i) (hc1 : cond0_1 i) (hc2 : ¬cond0_2 i) :
    arg10.view.read (Elt F) (arg10.view.writes (Elt F) (harg10.unread s0) (runB c i arg2 harg2 arg3 harg3 arg4 harg4 arg5 harg5 arg6 harg6 arg7 harg7 arg8 harg8 arg9 harg9 arg10 harg10 arg11 harg11 hc0 hc1 hc2 x0 x1 x2 x3 x4 x5 x6 x7 s0 s1).1)
      = put i s0 (tile i x0 x1 x2 x3 x4 x5) := by
  refine Eq.trans ?_ (read_put arg10.view (harg10.unread s0) i s0 (harg10.read_unread s0) (tile i x0 x1 x2 x3 x4 x5))
  unfold tile
  frame_out

theorem B_s1 (hc0 : ¬cond0_0 i) (hc1 : cond0_1 i) (hc2 : ¬cond0_2 i) :
    arg11.view.read (Elt F) (arg11.view.writes (Elt F) (harg11.unread s1) (runB c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.1)
      = partOver i x0 x1 x2 x3 x4 x5 s1 := by
  refine Eq.trans ?_ (read_all arg11.view (harg11.unread s1) (partOver i x0 x1 x2 x3 x4 x5 s1))
  unfold partOver
  frame_out

theorem C_s0 (hc0 : ¬cond0_0 i) (hc1 : cond0_1 i) (hc2 : cond0_2 i) :
    arg10.view.read (Elt F) (arg10.view.writes (Elt F) (harg10.unread s0) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.2.1)
      = put i s0 (tile i x0 x1 x2 x3 x4 x5) := by
  refine Eq.trans ?_ (read_put arg10.view (harg10.unread s0) i s0 (harg10.read_unread s0) (tile i x0 x1 x2 x3 x4 x5))
  unfold tile
  frame_out

theorem C_s1 (hc0 : ¬cond0_0 i) (hc1 : cond0_1 i) (hc2 : cond0_2 i) :
    arg11.view.read (Elt F) (arg11.view.writes (Elt F) (harg11.unread s1) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.2.2.1)
      = partOver i x0 x1 x2 x3 x4 x5 s1 := by
  refine Eq.trans ?_ (read_all arg11.view (harg11.unread s1) (partOver i x0 x1 x2 x3 x4 x5 s1))
  unfold partOver
  frame_out

/-- The row of scales stored in the scales, read back. -/
theorem read_row (v : View sig .tc .vmem S5x384 .f32) (f : v.ty.Contents (Elt F)) (i : grid0.Coords) (x7 : Vec F S5x384 .f32)
    (hf : v.read (Elt F) f = x7) (T : FVec F S1x384 .f32) (inb : ∀ a, k0_off3 i a + S1x384.size a ≤ S5x384.size a) :
    v.read (Elt F) (v.writes (Elt F) f [⟨Rect.unit (s := S5x384) (k0_off3 i) S1x384.size inb, T⟩])
      = fun y => if (y 0).val = (i 0).val then T (ValueIdx.ix2 (0 : Fin 1) (y 1)) else x7 y := by
  funext y
  dsimp only
  split
  · rename_i h
    refine View.read_writes_cons_unit_of_mem v f _ T [] y (ValueIdx.ix2 (0 : Fin 1) (y 1)) (off3_eq i) fun a => ?_
    match a with
    | ⟨0, _⟩ => exact h
    | ⟨1, _⟩ => exact (Nat.zero_add _).symm
  · rename_i h
    refine (View.read_writes_cons_unit_of_not_mem v f _ T [] y (off3_eq i) 0 ?_).trans (congrFun hf y)
    show (y 0).val < (i 0).val ∨ (i 0).val + 1 ≤ (y 0).val
    omega

theorem C_x7 (hc0 : ¬cond0_0 i) (hc1 : cond0_1 i) (hc2 : cond0_2 i) :
    arg9.view.read (Elt F) (arg9.view.writes (Elt F) (harg9.unread x7) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.1)
      = fun y => if (y 0).val = (i 0).val then scaleRow (partOver i x0 x1 x2 x3 x4 x5 s1) (ValueIdx.ix2 (0 : Fin 1) (y 1)) else x7 y := by
  refine Eq.trans ?_ (read_row arg9.view (harg9.unread x7) i x7 (harg9.read_unread x7) (scaleRow (partOver i x0 x1 x2 x3 x4 x5 s1)) (k0_off3_inb i hc2))
  unfold scaleRow partOver
  frame_out

/-- One block of the scratch. -/
def block (M : Vec F S11x384x512 .f32) (n : Fin 11) : Vec F S1x384x512 .f32 := fun x => M (ValueIdx.ix3 n (x 1) (x 2))

/-- All 5632 columns of codes from the lanes' magnitudes and the whole scratch. -/
def allCodes (a : Vec F S384x128 .f32) (M : Vec F S11x384x512 .f32) : FVec F S1x384x5632 .fp8e4m3 := fun y =>
  codes a (block M ⟨(y 2).val / 512, Nat.div_lt_of_lt_mul (y 2).isLt⟩)
    (ValueIdx.ix3 (0 : Fin 1) (y 1) (⟨(y 2).val % 512, Nat.mod_lt _ (by decide)⟩ : Fin 512))

/-- The eleven stores of codes. -/
abbrev codeList (q : FVec F S384x512 .f32) (M : Vec F S11x384x512 .f32) : List (View.Piece (Elt F) S1x384x5632 .fp8e4m3) :=
    [⟨Rect.unit (s := S1x384x5632) ![0, 0, 5120] S1x384x512.size inb_S1x384x5632_S1x384x512_0_0_5120, k0_pay7 q (View.ld M (Rect.unit (s := S11x384x512) ![10, 0, 0] S1x384x512.size inb_S11x384x512_S1x384x512_10_0_0))⟩,
     ⟨Rect.unit (s := S1x384x5632) ![0, 0, 4608] S1x384x512.size inb_S1x384x5632_S1x384x512_0_0_4608, k0_pay6 q (View.ld M (Rect.unit (s := S11x384x512) ![9, 0, 0] S1x384x512.size inb_S11x384x512_S1x384x512_9_0_0))⟩,
     ⟨Rect.unit (s := S1x384x5632) ![0, 0, 4096] S1x384x512.size inb_S1x384x5632_S1x384x512_0_0_4096, k0_pay22 q (View.ld M (Rect.unit (s := S11x384x512) ![8, 0, 0] S1x384x512.size inb_S11x384x512_S1x384x512_8_0_0))⟩,
     ⟨Rect.unit (s := S1x384x5632) ![0, 0, 3584] S1x384x512.size inb_S1x384x5632_S1x384x512_0_0_3584, k0_pay21 q (View.ld M (Rect.unit (s := S11x384x512) ![7, 0, 0] S1x384x512.size inb_S11x384x512_S1x384x512_7_0_0))⟩,
     ⟨Rect.unit (s := S1x384x5632) ![0, 0, 3072] S1x384x512.size inb_S1x384x5632_S1x384x512_0_0_3072, k0_pay20 q (View.ld M (Rect.unit (s := S11x384x512) ![6, 0, 0] S1x384x512.size inb_S11x384x512_S1x384x512_6_0_0))⟩,
     ⟨Rect.unit (s := S1x384x5632) ![0, 0, 2560] S1x384x512.size inb_S1x384x5632_S1x384x512_0_0_2560, k0_pay19 q (View.ld M (Rect.unit (s := S11x384x512) ![5, 0, 0] S1x384x512.size inb_S11x384x512_S1x384x512_5_0_0))⟩,
     ⟨Rect.unit (s := S1x384x5632) ![0, 0, 2048] S1x384x512.size inb_S1x384x5632_S1x384x512_0_0_2048, k0_pay18 q (View.ld M (Rect.unit (s := S11x384x512) ![4, 0, 0] S1x384x512.size inb_S11x384x512_S1x384x512_4_0_0))⟩,
     ⟨Rect.unit (s := S1x384x5632) ![0, 0, 1536] S1x384x512.size inb_S1x384x5632_S1x384x512_0_0_1536, k0_pay17 q (View.ld M (Rect.unit (s := S11x384x512) ![3, 0, 0] S1x384x512.size inb_S11x384x512_S1x384x512_3_0_0))⟩,
     ⟨Rect.unit (s := S1x384x5632) ![0, 0, 1024] S1x384x512.size inb_S1x384x5632_S1x384x512_0_0_1024, k0_pay16 q (View.ld M (Rect.unit (s := S11x384x512) ![2, 0, 0] S1x384x512.size inb_S11x384x512_S1x384x512_2_0_0))⟩,
     ⟨Rect.unit (s := S1x384x5632) ![0, 0, 512] S1x384x512.size inb_S1x384x5632_S1x384x512_0_0_512, k0_pay15 q (View.ld M (Rect.unit (s := S11x384x512) ![1, 0, 0] S1x384x512.size inb_S11x384x512_S1x384x512_1_0_0))⟩,
     ⟨Rect.unit (s := S1x384x5632) ![0, 0, 0] S1x384x512.size inb_S1x384x5632_S1x384x512_0_0_0, k0_pay14 q (View.ld M (Rect.unit (s := S11x384x512) ![0, 0, 0] S1x384x512.size inb_S11x384x512_S1x384x512_0_0_0))⟩]

/-- A load of one block. -/
theorem ld_block (M : Vec F S11x384x512 .f32) (n : Fin 11) (inb : ∀ a, (![n.val, 0, 0] : Fin 3 → Nat) a + S1x384x512.size a ≤ S11x384x512.size a) :
    View.ld M (Rect.unit (s := S11x384x512) ![n.val, 0, 0] S1x384x512.size inb) = block M n := by
  funext x
  refine View.ld_unit_apply_of M _ _ _ x (ValueIdx.ix3 n (x 1) (x 2)) fun a => ?_
  match a with
  | ⟨0, _⟩ => show n.val = n.val + (x 0).val; have h : (x 0).val < 1 := (x 0).isLt; omega
  | ⟨1, _⟩ => exact (Nat.zero_add _).symm
  | ⟨2, _⟩ => exact (Nat.zero_add _).symm

/-- One of the stores is its part of the whole. -/
theorem piece_eq (a : Vec F S384x128 .f32) (M : Vec F S11x384x512 .f32) (n : Fin 11)
    (inb : ∀ a, (![0, 0, 512 * n.val] : Fin 3 → Nat) a + S1x384x512.size a ≤ S1x384x5632.size a) (x : S1x384x512.Idx) :
    codes a (block M n) x = allCodes a M ((Rect.unit (s := S1x384x5632) ![0, 0, 512 * n.val] S1x384x512.size inb).emb x) := by
  have h2 : (((Rect.unit (s := S1x384x5632) ![0, 0, 512 * n.val] S1x384x512.size inb).emb x) 2).val = 512 * n.val + (x 2).val :=
    Rect.idx_unit_val (s := S1x384x5632) ![0, 0, 512 * n.val] S1x384x512.size inb x 2
  have h1 : (((Rect.unit (s := S1x384x5632) ![0, 0, 512 * n.val] S1x384x512.size inb).emb x) 1).val = 0 + (x 1).val :=
    Rect.idx_unit_val (s := S1x384x5632) ![0, 0, 512 * n.val] S1x384x512.size inb x 1
  have hx : (x 2).val < 512 := (x 2).isLt
  have hx0 : (x 0).val < 1 := (x 0).isLt
  have hn : (⟨(((Rect.unit (s := S1x384x5632) ![0, 0, 512 * n.val] S1x384x512.size inb).emb x) 2).val / 512,
      Nat.div_lt_of_lt_mul (((Rect.unit (s := S1x384x5632) ![0, 0, 512 * n.val] S1x384x512.size inb).emb x) 2).isLt⟩ : Fin 11) = n :=
    Fin.ext (by show _ / 512 = n.val; omega)
  show _ = codes a (block M ⟨_, _⟩) (ValueIdx.ix3 (0 : Fin 1) _ _)
  rw [hn]
  refine congrArg (codes a (block M n)) (funext fun b => ?_)
  match b with
  | ⟨0, _⟩ => exact Fin.ext (by show (x 0).val = 0; omega)
  | ⟨1, _⟩ => exact Fin.ext ((Nat.zero_add _).symm.trans h1.symm)
  | ⟨2, _⟩ => exact Fin.ext (by show (x 2).val = _ % 512; omega)

/-- The eleven stores read back. -/
theorem read_codes (v : View sig .tc .vmem S1x384x5632 .fp8e4m3) (f : v.ty.Contents (Elt F)) (a : Vec F S384x128 .f32) (M : Vec F S11x384x512 .f32) :
    v.read (Elt F) (v.writes (Elt F) f (codeList (k0_pay13 (k0_pay8 a) (k0_pay9 a) k0_pay10) M)) = allCodes a M := by
  funext y
  refine View.read_writes_apply_of_pieces v f (allCodes a M) _ (fun p hp x => ?_) y (View.cover_of_tiled (codeList (k0_pay13 (k0_pay8 a) (k0_pay9 a) k0_pay10) M) S1x384x512.size rfl y)
  simp only [codeList, List.mem_cons, List.not_mem_nil, or_false] at hp
  rcases hp with rfl | rfl | rfl | rfl | rfl | rfl | rfl | rfl | rfl | rfl | rfl
  · exact (congrFun (congrArg (codes a) (ld_block M 10 inb_S11x384x512_S1x384x512_10_0_0)) x).trans (piece_eq a M 10 inb_S1x384x5632_S1x384x512_0_0_5120 x)
  · exact (congrFun (congrArg (codes a) (ld_block M 9 inb_S11x384x512_S1x384x512_9_0_0)) x).trans (piece_eq a M 9 inb_S1x384x5632_S1x384x512_0_0_4608 x)
  · exact (congrFun (congrArg (codes a) (ld_block M 8 inb_S11x384x512_S1x384x512_8_0_0)) x).trans (piece_eq a M 8 inb_S1x384x5632_S1x384x512_0_0_4096 x)
  · exact (congrFun (congrArg (codes a) (ld_block M 7 inb_S11x384x512_S1x384x512_7_0_0)) x).trans (piece_eq a M 7 inb_S1x384x5632_S1x384x512_0_0_3584 x)
  · exact (congrFun (congrArg (codes a) (ld_block M 6 inb_S11x384x512_S1x384x512_6_0_0)) x).trans (piece_eq a M 6 inb_S1x384x5632_S1x384x512_0_0_3072 x)
  · exact (congrFun (congrArg (codes a) (ld_block M 5 inb_S11x384x512_S1x384x512_5_0_0)) x).trans (piece_eq a M 5 inb_S1x384x5632_S1x384x512_0_0_2560 x)
  · exact (congrFun (congrArg (codes a) (ld_block M 4 inb_S11x384x512_S1x384x512_4_0_0)) x).trans (piece_eq a M 4 inb_S1x384x5632_S1x384x512_0_0_2048 x)
  · exact (congrFun (congrArg (codes a) (ld_block M 3 inb_S11x384x512_S1x384x512_3_0_0)) x).trans (piece_eq a M 3 inb_S1x384x5632_S1x384x512_0_0_1536 x)
  · exact (congrFun (congrArg (codes a) (ld_block M 2 inb_S11x384x512_S1x384x512_2_0_0)) x).trans (piece_eq a M 2 inb_S1x384x5632_S1x384x512_0_0_1024 x)
  · exact (congrFun (congrArg (codes a) (ld_block M 1 inb_S11x384x512_S1x384x512_1_0_0)) x).trans (piece_eq a M 1 inb_S1x384x5632_S1x384x512_0_0_512 x)
  · exact (congrFun (congrArg (codes a) (ld_block M 0 inb_S11x384x512_S1x384x512_0_0_0)) x).trans (piece_eq a M 0 inb_S1x384x5632_S1x384x512_0_0_0 x)

theorem C_x6 (hc0 : ¬cond0_0 i) (hc1 : cond0_1 i) (hc2 : cond0_2 i) :
    arg8.view.read (Elt F) (arg8.view.writes (Elt F) (harg8.unread x6) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).1)
      = allCodes (partOver i x0 x1 x2 x3 x4 x5 s1) (put i s0 (tile i x0 x1 x2 x3 x4 x5)) := by
  refine Eq.trans ?_ (read_codes arg8.view (harg8.unread x6) (partOver i x0 x1 x2 x3 x4 x5 s1) (put i s0 (tile i x0 x1 x2 x3 x4 x5)))
  rw [← read_put arg10.view (harg10.unread s0) i s0 (harg10.read_unread s0) (tile i x0 x1 x2 x3 x4 x5)]
  unfold tile partOver
  frame_out

end Cert.Up.Run

end
-- ==== Proof.UpRun.lean ====
module

public import proofs.«01_k».proof.Proof.UpTile
public import Idealize.ShloMosaic.Lib.Pipeline.DatRel

@[expose] public section

set_option maxRecDepth 16384

noncomputable section

namespace Cert.Up.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Up.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the point computes -/

/-- The block of `m` at a point. -/
def tileAt (c : Dev nD) (t : Fin cfg0.N) : FVec F S1x384x512 .f32 :=
  tile (grid0.coords t) (iblk m c 0 t) (iblk m c 1 t) (iblk m c 2 t) (iblk m c 3 t) (iblk m c 4 t) (iblk m c 5 t)

/-- The lanes' largest magnitudes after a point: begun anew with every batch row. -/
def amaxAt (c : Dev nD) : (n : ℕ) → n < cfg0.N → FVec F S384x128 .f32
  | 0, hn => part (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if (n + 1) % 11 = 0 then
      part (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      partOver (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (amaxAt c n (Nat.lt_of_succ_lt hn))

/-- At a batch row's first block. -/
theorem amaxAt_first (c : Dev nD) (t : Fin cfg0.N) (h : t.val % 11 = 0) :
    amaxAt m c t.val t.isLt = part (grid0.coords t) (iblk m c 0 t) (iblk m c 1 t) (iblk m c 2 t) (iblk m c 3 t) (iblk m c 4 t) (iblk m c 5 t) := by
  obtain ⟨n, hn⟩ := t
  cases n with
  | zero => rfl
  | succ n => exact if_pos h

/-- At a later block. -/
theorem amaxAt_next (c : Dev nD) (t : Fin cfg0.N) (h : ¬t.val % 11 = 0) :
    amaxAt m c t.val t.isLt = partOver (grid0.coords t) (iblk m c 0 t) (iblk m c 1 t) (iblk m c 2 t) (iblk m c 3 t) (iblk m c 4 t) (iblk m c 5 t)
      (amaxAt m c (t.val - 1) (Nat.lt_of_le_of_lt (Nat.sub_le _ _) t.isLt)) := by
  obtain ⟨n, hn⟩ := t
  cases n with
  | zero => exact absurd (Nat.zero_mod _) h
  | succ n => exact if_neg h

/-- The scratch holds every block of the batch row so far. -/
def Good (c : Dev nD) (n : ℕ) (s0 : Vec F S11x384x512 .f32) : Prop :=
  ∀ u : Fin cfg0.N, u.val / 11 = n / 11 → u.val ≤ n → ∀ (r : Fin 384) (k : Fin 512),
    s0 (ValueIdx.ix3 (⟨u.val % 11, Nat.mod_lt _ (by decide)⟩ : Fin 11) r k) = tileAt m c u (ValueIdx.ix3 (0 : Fin 1) r k)

/-- The coordinates of a point. -/
theorem coords_0 : ∀ t : Fin cfg0.N, (grid0.coords t 0).val = t.val / 11 := by decide +kernel
theorem coords_1 : ∀ t : Fin cfg0.N, (grid0.coords t 1).val = t.val % 11 := by decide +kernel

/-- A block read where the point put it. -/
theorem put_self (t : Fin cfg0.N) (s0 : Vec F S11x384x512 .f32) (T : FVec F S1x384x512 .f32) (u : ℕ) (hu : u = t.val) (h : u % 11 < 11) (r : Fin 384) (k : Fin 512) :
    put (grid0.coords t) s0 T (ValueIdx.ix3 (⟨u % 11, h⟩ : Fin 11) r k) = T (ValueIdx.ix3 (0 : Fin 1) r k) := by
  subst hu
  exact if_pos (coords_1 t).symm

/-- A block read elsewhere. -/
theorem put_other (t : Fin cfg0.N) (s0 : Vec F S11x384x512 .f32) (T : FVec F S1x384x512 .f32) (u : ℕ) (hu : u % 11 ≠ t.val % 11) (h : u % 11 < 11) (r : Fin 384) (k : Fin 512) :
    put (grid0.coords t) s0 T (ValueIdx.ix3 (⟨u % 11, h⟩ : Fin 11) r k) = s0 (ValueIdx.ix3 (⟨u % 11, h⟩ : Fin 11) r k) := by
  refine if_neg ?_
  show ¬u % 11 = _
  rw [coords_1]
  exact hu

/-- The first block of a batch row needs nothing of the scratch. -/
theorem good_first (c : Dev nD) (t : Fin cfg0.N) (h : t.val % 11 = 0) (s0 : Vec F S11x384x512 .f32) :
    Good m c t.val (put (grid0.coords t) s0 (tileAt m c t)) := fun u hq hle r k => by
  have hu : u = t := Fin.ext (by omega)
  subst hu
  exact put_self u s0 _ _ rfl _ r k

/-- A later block adds itself to what the scratch holds. -/
theorem good_next (c : Dev nD) (t : Fin cfg0.N) (h : ¬t.val % 11 = 0) (s0 : Vec F S11x384x512 .f32) (hs : Good m c (t.val - 1) s0) :
    Good m c t.val (put (grid0.coords t) s0 (tileAt m c t)) := fun u hq hle r k => by
  by_cases hu : u = t
  · subst hu
    exact put_self u s0 _ _ rfl _ r k
  · have hv : u.val ≠ t.val := fun e => hu (Fin.ext e)
    rw [put_other t s0 _ u.val (by omega)]
    exact hs u (by omega) (by omega) r k

/-- The eleven blocks of a point's batch row. -/
def full (c : Dev nD) (t : Fin cfg0.N) : Vec F S11x384x512 .f32 := fun y =>
  tileAt m c ⟨11 * (t.val / 11) + (y 0).val, by
    have hN : t.val < 55 := lt_of_lt_of_eq t.isLt N_0
    have hy : (y 0).val < 11 := (y 0).isLt
    exact lt_of_lt_of_eq (by omega : 11 * (t.val / 11) + (y 0).val < 55) N_0.symm⟩ (ValueIdx.ix3 (0 : Fin 1) (y 1) (y 2))

/-- After the last block the scratch is all of them. -/
theorem good_full (c : Dev nD) (t : Fin cfg0.N) (h : t.val % 11 = 10) (s0 : Vec F S11x384x512 .f32) (hs : Good m c t.val s0) :
    s0 = full m c t := by
  funext y
  have hN : t.val < 55 := lt_of_lt_of_eq t.isLt N_0
  have hy : (y 0).val < 11 := (y 0).isLt
  have hu : 11 * (t.val / 11) + (y 0).val < cfg0.N := lt_of_lt_of_eq (by omega : 11 * (t.val / 11) + (y 0).val < 55) N_0.symm
  have e := hs ⟨11 * (t.val / 11) + (y 0).val, hu⟩ (by show (11 * (t.val / 11) + (y 0).val) / 11 = _; omega) (by show 11 * (t.val / 11) + (y 0).val ≤ _; omega) (y 1) (y 2)
  refine Eq.trans (congrArg s0 (funext fun a => ?_)) e
  match a with
  | ⟨0, _⟩ => exact Fin.ext (by show (y 0).val = (11 * (t.val / 11) + (y 0).val) % 11; omega)
  | ⟨1, _⟩ => rfl
  | ⟨2, _⟩ => rfl

/-- What the codes' buffer holds after a batch row's last block. -/
def codesAt (c : Dev nD) (t : Fin cfg0.N) : FVec F S1x384x5632 .fp8e4m3 := allCodes (amaxAt m c t.val t.isLt) (full m c t)

/-- What the scales' buffer holds after a point: the row of every batch row finished. -/
def Rows (c : Dev nD) (n : ℕ) (X : Vec F S5x384 .f32) : Prop :=
  ∀ u : Fin cfg0.N, u.val ≤ n → u.val % 11 = 10 → ∀ (b : Fin 5), b.val = u.val / 11 → ∀ r : Fin 384,
    X (ValueIdx.ix2 b r) = scaleRow (amaxAt m c u.val u.isLt) (ValueIdx.ix2 (0 : Fin 1) r)

/-- A point that finishes no batch row leaves the rows as they are. -/
theorem rows_keep (c : Dev nD) (t : Fin cfg0.N) (h : ¬t.val % 11 = 10) (X : Vec F S5x384 .f32)
    (hX : t.val ≠ 0 → Rows m c (t.val - 1) X) : Rows m c t.val X := fun u hle h10 b hb r => by
  have hne : u.val ≠ t.val := fun e => h (e ▸ h10)
  exact hX (by omega) u (by omega) h10 b hb r

/-- A point that finishes a batch row adds its row. -/
theorem rows_add (c : Dev nD) (t : Fin cfg0.N) (h : t.val % 11 = 10) (X : Vec F S5x384 .f32)
    (hX : t.val ≠ 0 → Rows m c (t.val - 1) X) :
    Rows m c t.val (fun y => if (y 0).val = (grid0.coords t 0).val then scaleRow (amaxAt m c t.val t.isLt) (ValueIdx.ix2 (0 : Fin 1) (y 1)) else X y) :=
  fun u hle h10 b hb r => by
  by_cases hu : u = t
  · subst hu
    exact if_pos (hb.trans (coords_0 u).symm)
  · have hv : u.val ≠ t.val := fun e => hu (Fin.ext e)
    refine (if_neg ?_).trans (hX (by omega) u (by omega) h10 b hb r)
    show ¬b.val = _
    rw [coords_0, hb]
    omega

/-! ## The proof data -/

/-- The invariant before position `n`: before the first point the scratch holds anything; afterwards it holds the batch row's
    blocks so far and their lanes' largest magnitudes. -/
def Phi (c : Dev nD) : (n : ℕ) → n ≤ cfg0.N → sProp 𝕄
  | 0, _ => Pipeline.ΦA spec0 c
  | n + 1, hn => iprop(iprop((∃ d, ⌜Good m c n d⌝ ∗ owns (c : Thread nD τ) scM0_0 fullShare d) ∗ owns (c : Thread nD τ) scM0_1 fullShare (amaxAt m c n hn)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ d, ⌜Good m c n d⌝ ∗ owns (c : Thread nD τ) scM0_0 fullShare d) ∗ owns (c : Thread nD τ) scM0_1 fullShare (amaxAt m c n hn)) ∗ (∃ r, prngReg c r)) := rfl

theorem Phi_pos (c : Dev nD) (n : ℕ) (h : n ≤ cfg0.N) (hz : n ≠ 0) :
    Phi m c n h = iprop(iprop((∃ d, ⌜Good m c (n - 1) d⌝ ∗ owns (c : Thread nD τ) scM0_0 fullShare d) ∗ owns (c : Thread nD τ) scM0_1 fullShare (amaxAt m c (n - 1) (by omega))) ∗ (∃ r, prngReg c r)) := by
  cases n with
  | zero => exact absurd rfl hz
  | succ n => rfl

/-- The windows whose contents are described by a predicate: the codes and the scales. -/
def marks : Fin 8 → Bool := fun w => w.val == 6 || w.val == 7

/-- The predicates. -/
def Holds (c : Dev nD) (w : Fin cfg0.W) (t : Fin cfg0.N) (X : (cfg0.win w).block.Idx → (Elt F) (cfg0.win w).elt) : Prop :=
  match w, X with
  | ⟨6, _⟩, X => t.val % 11 = 10 → X = codesAt m c t
  | ⟨7, _⟩, X => Rows m c t.val X
  | _, _ => True

/-- The proof data: each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := Phi m c t.val (Nat.le_of_lt_succ t.isLt)
  q _ := fullShare
  owed _ := 0

/-- The same with the two outputs' predicates. -/
abbrev rdat (c : Dev nD) := (dats m 0 c).toRRel marks (Holds m c)

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An input's buffer after the body. -/
theorem leaves0_0 (c : Dev nD) (t : Fin cfg0.N) : ((dats m 0 c).leaves 0 t : sProp 𝕄) = owns (c : Thread nD τ) (ms0_0 t) fullShare (iblk m c 0 t) := by
  unfold Dat.leaves; rw [liveAt0_0 t, after0_0]
theorem leaves0_1 (c : Dev nD) (t : Fin cfg0.N) : ((dats m 0 c).leaves 1 t : sProp 𝕄) = owns (c : Thread nD τ) (ms0_1 t) fullShare (iblk m c 1 t) := by
  unfold Dat.leaves; rw [liveAt0_1 t, after0_1]
theorem leaves0_2 (c : Dev nD) (t : Fin cfg0.N) : ((dats m 0 c).leaves 2 t : sProp 𝕄) = owns (c : Thread nD τ) (ms0_2 t) fullShare (iblk m c 2 t) := by
  unfold Dat.leaves; rw [liveAt0_2 t, after0_2]
theorem leaves0_3 (c : Dev nD) (t : Fin cfg0.N) : ((dats m 0 c).leaves 3 t : sProp 𝕄) = owns (c : Thread nD τ) (ms0_3 t) fullShare (iblk m c 3 t) := by
  unfold Dat.leaves; rw [liveAt0_3 t, after0_3]
theorem leaves0_4 (c : Dev nD) (t : Fin cfg0.N) : ((dats m 0 c).leaves 4 t : sProp 𝕄) = owns (c : Thread nD τ) (ms0_4 t) fullShare (iblk m c 4 t) := by
  unfold Dat.leaves; rw [liveAt0_4 t, after0_4]
theorem leaves0_5 (c : Dev nD) (t : Fin cfg0.N) : ((dats m 0 c).leaves 5 t : sProp 𝕄) = owns (c : Thread nD τ) (ms0_5 t) fullShare (iblk m c 5 t) := by
  unfold Dat.leaves; rw [liveAt0_5 t, after0_5]

/-- The scales' buffer is never fetched. -/
theorem nofetch_7 : ∀ t : Fin cfg0.N, (cfg0.win 7).fetch t = false := by decide +kernel

/-- What the body finds in the scales' buffer: the rows so far. -/
theorem finds_7 (c : Dev nD) (t : Fin cfg0.N) (Y) (h : (rdat m c).Finds 7 t Y) : t.val ≠ 0 → Rows m c (t.val - 1) Y := fun ht => by
  have hN : t.val < 55 := lt_of_lt_of_eq t.isLt N_0
  have hfe : (cfg0.win 7).fetch t = false := nofetch_7 t
  rcases (Pipeline.RDat.finds_of_pos (rd := rdat m c) hfe ht Y).mp h with h | h
  · exact absurd ((flush0_7 _).mp h) (by show ¬(t.val - 1) % 55 = 54; omega)
  · exact (dats m 0 c).toRRel_leaves (w := 7) rfl h

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, ⌜Holds m c 6 t X⌝ ∗ owns (c : Thread nD τ) (ms0_6 t) fullShare X)
    ∗ (∃ X, ⌜Holds m c 7 t X⌝ ∗ owns (c : Thread nD τ) (ms0_7 t) fullShare X))

set_option maxHeartbeats 9600000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5]
  rw [show (dats m 0 c).owesAt () t.succ = (dats m 0 c).owesAt () t.castSucc from rfl]
  rw [show (dats m 0 c).Φ t.succ = Phi m c (t.val + 1) t.isLt from rfl, Phi_succ, Phi_castSucc m c t]
  have hN : t.val < 55 := lt_of_lt_of_eq t.isLt (show cfg0.N = 55 from N_0)
  by_cases h0 : t.val % 11 = 0
  · have h1 : ¬1 ≤ t.val % 11 := by omega
    have h2 : ¬t.val % 11 = 10 := by omega
    rw [amaxAt_first m c t h0]
    by_cases hz : t.val = 0
    · rw [Phi_zero m c _ _ hz, PhiA0_eq]
      iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runA c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) y6 y7 s0 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_first m c t h0 s0
            unfold owns; iexists _; isplitr
            swap; · iexact HS0
            ipureintro; exact A_s0 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
          unfold owns; iexists _; isplitr
          swap; · iexact HS1
          ipureintro; exact A_s1 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists y6; isplitr; · ipureintro; exact fun h => absurd h h2
        iexact H6
      iexists _; isplitr; · ipureintro; exact rows_keep m c t h2 y7 (finds_7 m c t y7 hy7)
      iexact H7
    · rw [Phi_pos m c _ _ hz]
      iintro ⟨⟨⟨⟨%s0, %hs0, HS0⟩, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runA c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) y6 y7 s0 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_first m c t h0 s0
            unfold owns; iexists _; isplitr
            swap; · iexact HS0
            ipureintro; exact A_s0 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
          unfold owns; iexists _; isplitr
          swap; · iexact HS1
          ipureintro; exact A_s1 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists y6; isplitr; · ipureintro; exact fun h => absurd h h2
        iexact H6
      iexists _; isplitr; · ipureintro; exact rows_keep m c t h2 y7 (finds_7 m c t y7 hy7)
      iexact H7
  · have h1 : 1 ≤ t.val % 11 := by omega
    have hz : t.val ≠ 0 := by omega
    rw [amaxAt_next m c t h0, Phi_pos m c _ _ hz]
    by_cases h2 : t.val % 11 = 10
    · iintro ⟨⟨⟨⟨%s0, %hs0, HS0⟩, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runC c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) y6 y7 s0 _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_next m c t h0 s0 hs0
            unfold owns; iexists _; isplitr
            swap; · iexact HS0
            ipureintro; exact C_s0 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
          unfold owns; iexists _; isplitr
          swap; · iexact HS1
          ipureintro; exact C_s1 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap
        · unfold owns; iexists _; isplitr
          swap; · iexact H6
          ipureintro; exact C_x6 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
        · ipureintro; intro _; rw [← amaxAt_next m c t h0]
          exact congrArg _ (good_full m c t h2 _ (good_next m c t h0 s0 hs0))
      iexists _; isplitr; swap
      · unfold owns; iexists _; isplitr
        swap; · iexact H7
        ipureintro; exact C_x7 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
      · ipureintro; rw [← amaxAt_next m c t h0]
        exact rows_add m c t h2 y7 (finds_7 m c t y7 hy7)
    · iintro ⟨⟨⟨⟨%s0, %hs0, HS0⟩, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runB c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) y6 y7 s0 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_next m c t h0 s0 hs0
            unfold owns; iexists _; isplitr
            swap; · iexact HS0
            ipureintro; exact B_s0 c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h))
          unfold owns; iexists _; isplitr
          swap; · iexact HS1
          ipureintro; exact B_s1 c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists y6; isplitr; · ipureintro; exact fun h => absurd h h2
        iexact H6
      iexists _; isplitr; · ipureintro; exact rows_keep m c t h2 y7 (finds_7 m c t y7 hy7)
      iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : Pipeline.BodyObligationRel (dats (F := F) m 0 c) (defs₀ (F := F)) Variants.none () Set.univ marks (Holds m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 55 := N_0; omega
  rw [show (dats m 0 c).Φ (Fin.last cfg0.N) = Phi m c (Fin.last cfg0.N).val (Nat.le_of_lt_succ (Fin.last cfg0.N).isLt) from rfl, Phi_pos m c _ _ ht, PhiA0_eq]
  iintro ⟨⟨⟨%d, -, HS0⟩, HS1⟩, Hg⟩
  isplitl [HS0 HS1]
  · isplitl [HS0]
    · iexists _; iexact HS0
    iexists _; iexact HS1
  iexact Hg

/-! ## The launch -/

/-- The launch over data whose outputs are held to predicates, for any data. -/
theorem launch_of (dat : (p : Fin 1) → (c : Dev nD) → Dat τ (Elt F) Unit ℕ (UR sig nD τ) ℕ (cfgs p) c)
    (fgt : Fin (cfgs 0).W → Bool) (Rl : (c : Dev nD) → (w : Fin (cfgs 0).W) → Fin (cfgs 0).N → (((cfgs 0).win w).block.Idx → (Elt F) ((cfgs 0).win w).elt) → Prop)
    (hbody : ∀ c, Pipeline.BodyObligationRel (dat 0 c) (defs₀ (F := F)) Variants.none () Set.univ fgt (Rl c))
    (hshare : ∀ c w, (dat 0 c).share w = fullShare) (howed : ∀ c t, (dat 0 c).owed t = 0)
    (hA : ∀ c w, (dat 0 c).A w = V m c (Pipeline.arrRef (cfgs 0).spec w))
    (hin : ∀ c, Pipeline.ΦA (cfgs 0).spec c ⊢ (dat 0 c).Φ 0) (hout : ∀ c, (dat 0 c).Φ (Fin.last (cfgs 0).N) ⊢ Pipeline.ΦA (cfgs 0).spec c) :
    θ_run defs (onTc (τ := τ) (main (F := F))) (s₀ m ρ) (fun r => (Pipeline.RDat.FramePost (cfgs 0) (fun c => (dat 0 c).toRRel fgt (Rl c)) (V m)) r ∧ r.2.sem = fun _ => 0) :=
  Pipeline.RDat.θ_run_frame_track (Q' := _) cfgs (0 : Fin 1) launch0 defs₀ Variants.none (fun c => (dat 0 c).toRRel fgt (Rl c)) m ρ main
    (hbody := fun c => (hbody c).toRRel) (hshare := hshare) (howed := howed) (V := V m) (hmain := hmain m Variants.none) (hA := hA) (hin := hin) (hout := hout)
    (hQ' := fun _ h => h)

set_option backward.isDefEq.respectTransparency.types false in
/-- The launch: every run ends with the two outputs as their predicates say and all counters at zero. -/
theorem run_main : θ_run defs (onTc (τ := τ) (main (F := F))) (s₀ m ρ) (fun r => (Pipeline.RDat.FramePost (cfgs 0) (fun c => rdat m c) (V m)) r ∧ r.2.sem = fun _ => 0) :=
  launch_of m ρ (dats m) marks (Holds m) (body_obligation m) (fun c => (dats m 0 c).share_full fun _ => rfl) (fun _ _ => rfl) (A_eq m) (hin m) (hout m)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
      (Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c)⟩, hr.2⟩)
    (run_main m ρ)

end Cert.Up.Run

end
-- ==== Proof.UpIdealParts.lean ====
module

public import proofs.«01_k».proof.Proof.Gen.UpIdeal.Skeleton
public import proofs.«01_k».proof.Proof.Gen.UpIdeal.Frame

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 55 := Nat.lt_of_lt_of_eq t.isLt N_0
    have e0 : (grid0.coords t 0).val = t.val / 11 % 5 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 11 :=
  (by decide +kernel : ∀ t : Fin grid0.N, cond0_1 (grid0.coords t) ↔ 1 ≤ t.val % 11)

/-- The condition of the body's `scf.if` 2 (`k0_h3`), from the grid coordinates (the skeleton's scalar
    chain substituted). -/
abbrev cond0_2 (i : grid0.Coords) : Prop := k0_cond3 i = 1#1
/-- It holds at the points ≡ 10 (mod 11) — by arithmetic of the point. -/
theorem hcond0_2 : ∀ t : Fin cfg0.N, cond0_2 (grid0.coords t) ↔ t.val % 11 = 10 :=
  (fun t => by
    have ht : t.val < 55 := Nat.lt_of_lt_of_eq t.isLt N_0
    have e0 : (grid0.coords t 0).val = t.val / 11 % 5 := Pipeline.Grid.coords_val t 0 (by decide) rfl
    have e1 : (grid0.coords t 1).val = t.val / 1 % 11 := Pipeline.Grid.coords_val t 1 (by decide) rfl
    simp only [cond0_2, k0_cond3, e0, e1]
    word_cmp
   : ∀ t : Fin grid0.N, cond0_2 (grid0.coords t) ↔ t.val % 11 = 10)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x384x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384x5632 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5x384 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S11x384x512 .f32 := Memref.whole cc0_scratch0
abbrev scM0_1 : Memref sig .tc .vmem S384x128 .f32 := Memref.whole cc0_scratch1
/-- The scratch `arg11` the kernel carries between points, as a view: what it holds is stated through it. -/
abbrev VS0_1 : View sig .tc .vmem S384x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.UpIdeal.Run

end
-- ==== Proof.UpIdealRunA.lean ====
module

public import proofs.«01_k».proof.Proof.UpIdealParts

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 4000000 in
/-- The body at the first feed-forward block of a batch entry, on whole memrefs with named contents: what it stores in each buffer, as pieces, the last first,
    with the proof that it runs and leaves the buffers with just those pieces written. -/
noncomputable def runA (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (hc0 : cond0_0 i) (hc1 : ¬cond0_1 i) (hc2 : ¬cond0_2 i)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32) :
    Σ' (LS0 : List (View.Piece (Elt F) S11x384x512 .f32)), { LS1 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread s0) LS0) ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mlp_up_eq_skeleton]; unfold cc0_mlp_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexact HS1

end Cert.UpIdeal.Run

end
-- ==== Proof.UpIdealRunB.lean ====
module

public import proofs.«01_k».proof.Proof.UpIdealRunA

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 4000000 in
/-- The body at a middle block, on whole memrefs with named contents: what it stores in each buffer, as pieces, the last first,
    with the proof that it runs and leaves the buffers with just those pieces written. -/
noncomputable def runB (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (hc0 : ¬cond0_0 i) (hc1 : cond0_1 i) (hc2 : ¬cond0_2 i)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32) :
    Σ' (LS0 : List (View.Piece (Elt F) S11x384x512 .f32)), { LS1 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} arg10.view.writes (Elt F) (harg10.unread s0) LS0) ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mlp_up_eq_skeleton]; unfold cc0_mlp_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexact HS1

end Cert.UpIdeal.Run

end
-- ==== Proof.UpIdealRunC.lean ====
module

public import proofs.«01_k».proof.Proof.UpIdealRunB

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

set_option maxHeartbeats 4000000 in
/-- The body at the last block, on whole memrefs with named contents: what it stores in each buffer, as pieces, the last first,
    with the proof that it runs and leaves the buffers with just those pieces written. -/
noncomputable def runC (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (hc0 : ¬cond0_0 i) (hc1 : cond0_1 i) (hc2 : cond0_2 i)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32) :
    Σ' (L6 : List (View.Piece (Elt F) S1x384x5632 .fp8e4m3)) (L7 : List (View.Piece (Elt F) S5x384 .f32)) (LS0 : List (View.Piece (Elt F) S11x384x512 .f32)), { LS1 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread s0) LS0) ∗ (arg11.view.loc (c : Thread nD τ) ↦[arg11.view.set]{fullShare} arg11.view.writes (Elt F) (harg11.unread s1) LS1)) -∗ K ⟨⟩))
          ⊢ wp frame (wpE (defs₀ (F := F)) Variants.none c none) E (cc0_mlp_up i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_mlp_up_eq_skeleton]; unfold cc0_mlp_up_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexact H7
    isplitl [HS0]; · iexact HS0
    iexact HS1

end Cert.UpIdeal.Run

end
-- ==== Proof.UpIdealTile.lean ====
module

public import proofs.«01_k».proof.Proof.UpIdealRunC
public import Idealize.ShloMosaic.Lib.Pipeline.ValueKit
public import Idealize.ShloMosaic.Lib.WritesUnit

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

/-- The dequantised gate product of one block of 512 feed-forward columns, as the body computes it from its input blocks. -/
abbrev gate (i : grid0.Coords) (x0 : Vec F S1x384x2048 .fp8e4m3) (x1 : Vec F S5x384 .f32) (x2 : Vec F S2x512x2048 .fp8e4m3) (x3 : Vec F S2x1x512 .f32) : FVec F S384x512 .f32 :=
  k0_pay24 (View.ld x1 (Rect.unit (k0_off1 i) S1x384.size (k0_off1_inb i)))
    x0
    (View.ld x2 (Rect.unit ![1, 0, 0] S1x512x2048.size inb_S2x512x2048_S1x512x2048_1_0_0))
    (View.ld x3 (Rect.unit ![1, 0, 0] S1x1x512.size inb_S2x1x512_S1x1x512_1_0_0))

/-- The scaled and dequantised up product of the block. -/
abbrev up (i : grid0.Coords) (x0 : Vec F S1x384x2048 .fp8e4m3) (x1 : Vec F S5x384 .f32) (x2 : Vec F S2x512x2048 .fp8e4m3) (x3 : Vec F S2x1x512 .f32) (x4 : Vec F S1x512 .f32) : FVec F S384x512 .f32 :=
  k0_pay25 (View.ld x1 (Rect.unit (k0_off1 i) S1x384.size (k0_off1_inb i)))
    x0
    (View.ld x2 (Rect.unit ![0, 0, 0] S1x512x2048.size inb_S2x512x2048_S1x512x2048_0_0_0))
    (View.ld x3 (Rect.unit ![0, 0, 0] S1x1x512.size inb_S2x1x512_S1x1x512_0_0_0))
    x4

/-- The constant the body multiplies `s_v` by. -/
abbrev root : F .f32 := FloatOps.ofBits .f32 1110770931#32

/-- The block of `m` that the body stores in its scratch. -/
def tile (i : grid0.Coords) (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32) : FVec F S1x384x512 .f32 :=
  k0_pay2 (gate i x0 x1 x2 x3) (up i x0 x1 x2 x3 x4) (k0_pay26 x5) root

/-- The largest magnitude of the block in each lane of 128. -/
def part (i : grid0.Coords) (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32) : FVec F S384x128 .f32 :=
  k0_pay4 (gate i x0 x1 x2 x3) (up i x0 x1 x2 x3 x4) (k0_pay26 x5) root

/-- The larger of that and what the blocks before left. -/
def partOver (i : grid0.Coords) (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (s1 : Vec F S384x128 .f32) : FVec F S384x128 .f32 :=
  k0_pay5 (gate i x0 x1 x2 x3) (up i x0 x1 x2 x3 x4) (k0_pay26 x5) root s1

/-- The row of scales from the lanes' largest magnitudes. -/
def scaleRow (a : Vec F S384x128 .f32) : FVec F S1x384 .f32 := k0_pay12 (k0_pay8 a) (k0_pay9 a) k0_pay10

/-- A block's codes from the lanes' largest magnitudes and the block. -/
def codes (a : Vec F S384x128 .f32) (T : Vec F S1x384x512 .f32) : FVec F S1x384x512 .fp8e4m3 :=
  k0_pay14 (k0_pay13 (k0_pay8 a) (k0_pay9 a) k0_pay10) T

/-- The scratch with the block `T` put at the point's position. -/
def put (i : grid0.Coords) (s0 : Vec F S11x384x512 .f32) (T : FVec F S1x384x512 .f32) : Vec F S11x384x512 .f32 :=
  fun y => if (y 0).val = (i 1).val then T (ValueIdx.ix3 (0 : Fin 1) (y 1) (y 2)) else s0 y

/-- Where the body writes in the scratch. -/
theorem off2_eq : ∀ i : grid0.Coords, k0_off2 i = ![(i 1).val, 0, 0] := by decide +kernel
/-- Where it writes in the scales. -/
theorem off3_eq : ∀ i : grid0.Coords, k0_off3 i = ![(i 0).val, 0] := by decide +kernel

/-- A block stored in the scratch, read back. -/
theorem read_put (v : View sig .tc .vmem S11x384x512 .f32) (f : v.ty.Contents (Elt F)) (i : grid0.Coords) (s0 : Vec F S11x384x512 .f32)
    (hf : v.read (Elt F) f = s0) (T : FVec F S1x384x512 .f32) :
    v.read (Elt F) (v.writes (Elt F) f [⟨Rect.unit (s := S11x384x512) (k0_off2 i) S1x384x512.size (k0_off2_inb i), T⟩]) = put i s0 T := by
  funext y
  unfold put
  split
  · rename_i h
    refine View.read_writes_cons_unit_of_mem v f _ T [] y (ValueIdx.ix3 (0 : Fin 1) (y 1) (y 2)) (off2_eq i) fun a => ?_
    match a with
    | ⟨0, _⟩ => exact h
    | ⟨1, _⟩ => exact (Nat.zero_add _).symm
    | ⟨2, _⟩ => exact (Nat.zero_add _).symm
  · rename_i h
    refine (View.read_writes_cons_unit_of_not_mem v f _ T [] y (off2_eq i) 0 ?_).trans (congrFun hf y)
    show (y 0).val < (i 1).val ∨ (i 1).val + 1 ≤ (y 0).val
    omega

/-- The lanes' magnitudes stored, read back. -/
theorem read_all (v : View sig .tc .vmem S384x128 .f32) (f : v.ty.Contents (Elt F)) (w : FVec F S384x128 .f32) :
    v.read (Elt F) (v.writes (Elt F) f [⟨Rect.unit (s := S384x128) ![0, 0] S384x128.size inb_S384x128_S384x128_0_0, w⟩]) = w := by
  funext y
  refine View.read_writes_cons_unit_of_mem v f _ w [] y y rfl fun a => ?_
  match a with
  | ⟨0, _⟩ => exact (Nat.zero_add _).symm
  | ⟨1, _⟩ => exact (Nat.zero_add _).symm

variable (c : Dev nD) (i : grid0.Coords) (arg2 : Memref sig .tc .vmem S1x384x2048 .fp8e4m3) (harg2 : arg2.IsWhole) (arg3 : Memref sig .tc .vmem S5x384 .f32) (harg3 : arg3.IsWhole)
    (arg4 : Memref sig .tc .vmem S2x512x2048 .fp8e4m3) (harg4 : arg4.IsWhole) (arg5 : Memref sig .tc .vmem S2x1x512 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S1x384x5632 .fp8e4m3) (harg8 : arg8.IsWhole) (arg9 : Memref sig .tc .vmem S5x384 .f32) (harg9 : arg9.IsWhole)
    (arg10 : Memref sig .tc .vmem S11x384x512 .f32) (harg10 : arg10.IsWhole) (arg11 : Memref sig .tc .vmem S384x128 .f32) (harg11 : arg11.IsWhole)
    (x0 : Vec F S1x384x2048 .fp8e4m3) (x1 : Vec F S5x384 .f32) (x2 : Vec F S2x512x2048 .fp8e4m3) (x3 : Vec F S2x1x512 .f32) (x4 : Vec F S1x512 .f32) (x5 : Vec F S1x512 .f32)
    (x6 : Vec F S1x384x5632 .fp8e4m3) (x7 : Vec F S5x384 .f32) (s0 : Vec F S11x384x512 .f32) (s1 : Vec F S384x128 .f32)

theorem A_s0 (hc0 : cond0_0 i) (hc1 : ¬cond0_1 i) (hc2 : ¬cond0_2 i) :
    arg10.view.read (Elt F) (arg10.view.writes (Elt F) (harg10.unread s0) (runA c i arg2 harg2 arg3 harg3 arg4 harg4 arg5 harg5 arg6 harg6 arg7 harg7 arg8 harg8 arg9 harg9 arg10 harg10 arg11 harg11 hc0 hc1 hc2 x0 x1 x2 x3 x4 x5 x6 x7 s0 s1).1)
      = put i s0 (tile i x0 x1 x2 x3 x4 x5) := by
  refine Eq.trans ?_ (read_put arg10.view (harg10.unread s0) i s0 (harg10.read_unread s0) (tile i x0 x1 x2 x3 x4 x5))
  unfold tile
  frame_out

theorem A_s1 (hc0 : cond0_0 i) (hc1 : ¬cond0_1 i) (hc2 : ¬cond0_2 i) :
    arg11.view.read (Elt F) (arg11.view.writes (Elt F) (harg11.unread s1) (runA c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.1)
      = part i x0 x1 x2 x3 x4 x5 := by
  refine Eq.trans ?_ (read_all arg11.view (harg11.unread s1) (part i x0 x1 x2 x3 x4 x5))
  unfold part
  frame_out

theorem B_s0 (hc0 : ¬cond0_0 i) (hc1 : cond0_1 i) (hc2 : ¬cond0_2 i) :
    arg10.view.read (Elt F) (arg10.view.writes (Elt F) (harg10.unread s0) (runB c i arg2 harg2 arg3 harg3 arg4 harg4 arg5 harg5 arg6 harg6 arg7 harg7 arg8 harg8 arg9 harg9 arg10 harg10 arg11 harg11 hc0 hc1 hc2 x0 x1 x2 x3 x4 x5 x6 x7 s0 s1).1)
      = put i s0 (tile i x0 x1 x2 x3 x4 x5) := by
  refine Eq.trans ?_ (read_put arg10.view (harg10.unread s0) i s0 (harg10.read_unread s0) (tile i x0 x1 x2 x3 x4 x5))
  unfold tile
  frame_out

theorem B_s1 (hc0 : ¬cond0_0 i) (hc1 : cond0_1 i) (hc2 : ¬cond0_2 i) :
    arg11.view.read (Elt F) (arg11.view.writes (Elt F) (harg11.unread s1) (runB c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.1)
      = partOver i x0 x1 x2 x3 x4 x5 s1 := by
  refine Eq.trans ?_ (read_all arg11.view (harg11.unread s1) (partOver i x0 x1 x2 x3 x4 x5 s1))
  unfold partOver
  frame_out

theorem C_s0 (hc0 : ¬cond0_0 i) (hc1 : cond0_1 i) (hc2 : cond0_2 i) :
    arg10.view.read (Elt F) (arg10.view.writes (Elt F) (harg10.unread s0) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.2.1)
      = put i s0 (tile i x0 x1 x2 x3 x4 x5) := by
  refine Eq.trans ?_ (read_put arg10.view (harg10.unread s0) i s0 (harg10.read_unread s0) (tile i x0 x1 x2 x3 x4 x5))
  unfold tile
  frame_out

theorem C_s1 (hc0 : ¬cond0_0 i) (hc1 : cond0_1 i) (hc2 : cond0_2 i) :
    arg11.view.read (Elt F) (arg11.view.writes (Elt F) (harg11.unread s1) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.2.2.1)
      = partOver i x0 x1 x2 x3 x4 x5 s1 := by
  refine Eq.trans ?_ (read_all arg11.view (harg11.unread s1) (partOver i x0 x1 x2 x3 x4 x5 s1))
  unfold partOver
  frame_out

/-- The row of scales stored in the scales, read back. -/
theorem read_row (v : View sig .tc .vmem S5x384 .f32) (f : v.ty.Contents (Elt F)) (i : grid0.Coords) (x7 : Vec F S5x384 .f32)
    (hf : v.read (Elt F) f = x7) (T : FVec F S1x384 .f32) (inb : ∀ a, k0_off3 i a + S1x384.size a ≤ S5x384.size a) :
    v.read (Elt F) (v.writes (Elt F) f [⟨Rect.unit (s := S5x384) (k0_off3 i) S1x384.size inb, T⟩])
      = fun y => if (y 0).val = (i 0).val then T (ValueIdx.ix2 (0 : Fin 1) (y 1)) else x7 y := by
  funext y
  dsimp only
  split
  · rename_i h
    refine View.read_writes_cons_unit_of_mem v f _ T [] y (ValueIdx.ix2 (0 : Fin 1) (y 1)) (off3_eq i) fun a => ?_
    match a with
    | ⟨0, _⟩ => exact h
    | ⟨1, _⟩ => exact (Nat.zero_add _).symm
  · rename_i h
    refine (View.read_writes_cons_unit_of_not_mem v f _ T [] y (off3_eq i) 0 ?_).trans (congrFun hf y)
    show (y 0).val < (i 0).val ∨ (i 0).val + 1 ≤ (y 0).val
    omega

theorem C_x7 (hc0 : ¬cond0_0 i) (hc1 : cond0_1 i) (hc2 : cond0_2 i) :
    arg9.view.read (Elt F) (arg9.view.writes (Elt F) (harg9.unread x7) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).2.1)
      = fun y => if (y 0).val = (i 0).val then scaleRow (partOver i x0 x1 x2 x3 x4 x5 s1) (ValueIdx.ix2 (0 : Fin 1) (y 1)) else x7 y := by
  refine Eq.trans ?_ (read_row arg9.view (harg9.unread x7) i x7 (harg9.read_unread x7) (scaleRow (partOver i x0 x1 x2 x3 x4 x5 s1)) (k0_off3_inb i hc2))
  unfold scaleRow partOver
  frame_out

/-- One block of the scratch. -/
def block (M : Vec F S11x384x512 .f32) (n : Fin 11) : Vec F S1x384x512 .f32 := fun x => M (ValueIdx.ix3 n (x 1) (x 2))

/-- All 5632 columns of codes from the lanes' magnitudes and the whole scratch. -/
def allCodes (a : Vec F S384x128 .f32) (M : Vec F S11x384x512 .f32) : FVec F S1x384x5632 .fp8e4m3 := fun y =>
  codes a (block M ⟨(y 2).val / 512, Nat.div_lt_of_lt_mul (y 2).isLt⟩)
    (ValueIdx.ix3 (0 : Fin 1) (y 1) (⟨(y 2).val % 512, Nat.mod_lt _ (by decide)⟩ : Fin 512))

/-- The eleven stores of codes. -/
abbrev codeList (q : FVec F S384x512 .f32) (M : Vec F S11x384x512 .f32) : List (View.Piece (Elt F) S1x384x5632 .fp8e4m3) :=
    [⟨Rect.unit (s := S1x384x5632) ![0, 0, 5120] S1x384x512.size inb_S1x384x5632_S1x384x512_0_0_5120, k0_pay7 q (View.ld M (Rect.unit (s := S11x384x512) ![10, 0, 0] S1x384x512.size inb_S11x384x512_S1x384x512_10_0_0))⟩,
     ⟨Rect.unit (s := S1x384x5632) ![0, 0, 4608] S1x384x512.size inb_S1x384x5632_S1x384x512_0_0_4608, k0_pay6 q (View.ld M (Rect.unit (s := S11x384x512) ![9, 0, 0] S1x384x512.size inb_S11x384x512_S1x384x512_9_0_0))⟩,
     ⟨Rect.unit (s := S1x384x5632) ![0, 0, 4096] S1x384x512.size inb_S1x384x5632_S1x384x512_0_0_4096, k0_pay22 q (View.ld M (Rect.unit (s := S11x384x512) ![8, 0, 0] S1x384x512.size inb_S11x384x512_S1x384x512_8_0_0))⟩,
     ⟨Rect.unit (s := S1x384x5632) ![0, 0, 3584] S1x384x512.size inb_S1x384x5632_S1x384x512_0_0_3584, k0_pay21 q (View.ld M (Rect.unit (s := S11x384x512) ![7, 0, 0] S1x384x512.size inb_S11x384x512_S1x384x512_7_0_0))⟩,
     ⟨Rect.unit (s := S1x384x5632) ![0, 0, 3072] S1x384x512.size inb_S1x384x5632_S1x384x512_0_0_3072, k0_pay20 q (View.ld M (Rect.unit (s := S11x384x512) ![6, 0, 0] S1x384x512.size inb_S11x384x512_S1x384x512_6_0_0))⟩,
     ⟨Rect.unit (s := S1x384x5632) ![0, 0, 2560] S1x384x512.size inb_S1x384x5632_S1x384x512_0_0_2560, k0_pay19 q (View.ld M (Rect.unit (s := S11x384x512) ![5, 0, 0] S1x384x512.size inb_S11x384x512_S1x384x512_5_0_0))⟩,
     ⟨Rect.unit (s := S1x384x5632) ![0, 0, 2048] S1x384x512.size inb_S1x384x5632_S1x384x512_0_0_2048, k0_pay18 q (View.ld M (Rect.unit (s := S11x384x512) ![4, 0, 0] S1x384x512.size inb_S11x384x512_S1x384x512_4_0_0))⟩,
     ⟨Rect.unit (s := S1x384x5632) ![0, 0, 1536] S1x384x512.size inb_S1x384x5632_S1x384x512_0_0_1536, k0_pay17 q (View.ld M (Rect.unit (s := S11x384x512) ![3, 0, 0] S1x384x512.size inb_S11x384x512_S1x384x512_3_0_0))⟩,
     ⟨Rect.unit (s := S1x384x5632) ![0, 0, 1024] S1x384x512.size inb_S1x384x5632_S1x384x512_0_0_1024, k0_pay16 q (View.ld M (Rect.unit (s := S11x384x512) ![2, 0, 0] S1x384x512.size inb_S11x384x512_S1x384x512_2_0_0))⟩,
     ⟨Rect.unit (s := S1x384x5632) ![0, 0, 512] S1x384x512.size inb_S1x384x5632_S1x384x512_0_0_512, k0_pay15 q (View.ld M (Rect.unit (s := S11x384x512) ![1, 0, 0] S1x384x512.size inb_S11x384x512_S1x384x512_1_0_0))⟩,
     ⟨Rect.unit (s := S1x384x5632) ![0, 0, 0] S1x384x512.size inb_S1x384x5632_S1x384x512_0_0_0, k0_pay14 q (View.ld M (Rect.unit (s := S11x384x512) ![0, 0, 0] S1x384x512.size inb_S11x384x512_S1x384x512_0_0_0))⟩]

/-- A load of one block. -/
theorem ld_block (M : Vec F S11x384x512 .f32) (n : Fin 11) (inb : ∀ a, (![n.val, 0, 0] : Fin 3 → Nat) a + S1x384x512.size a ≤ S11x384x512.size a) :
    View.ld M (Rect.unit (s := S11x384x512) ![n.val, 0, 0] S1x384x512.size inb) = block M n := by
  funext x
  refine View.ld_unit_apply_of M _ _ _ x (ValueIdx.ix3 n (x 1) (x 2)) fun a => ?_
  match a with
  | ⟨0, _⟩ => show n.val = n.val + (x 0).val; have h : (x 0).val < 1 := (x 0).isLt; omega
  | ⟨1, _⟩ => exact (Nat.zero_add _).symm
  | ⟨2, _⟩ => exact (Nat.zero_add _).symm

/-- One of the stores is its part of the whole. -/
theorem piece_eq (a : Vec F S384x128 .f32) (M : Vec F S11x384x512 .f32) (n : Fin 11)
    (inb : ∀ a, (![0, 0, 512 * n.val] : Fin 3 → Nat) a + S1x384x512.size a ≤ S1x384x5632.size a) (x : S1x384x512.Idx) :
    codes a (block M n) x = allCodes a M ((Rect.unit (s := S1x384x5632) ![0, 0, 512 * n.val] S1x384x512.size inb).emb x) := by
  have h2 : (((Rect.unit (s := S1x384x5632) ![0, 0, 512 * n.val] S1x384x512.size inb).emb x) 2).val = 512 * n.val + (x 2).val :=
    Rect.idx_unit_val (s := S1x384x5632) ![0, 0, 512 * n.val] S1x384x512.size inb x 2
  have h1 : (((Rect.unit (s := S1x384x5632) ![0, 0, 512 * n.val] S1x384x512.size inb).emb x) 1).val = 0 + (x 1).val :=
    Rect.idx_unit_val (s := S1x384x5632) ![0, 0, 512 * n.val] S1x384x512.size inb x 1
  have hx : (x 2).val < 512 := (x 2).isLt
  have hx0 : (x 0).val < 1 := (x 0).isLt
  have hn : (⟨(((Rect.unit (s := S1x384x5632) ![0, 0, 512 * n.val] S1x384x512.size inb).emb x) 2).val / 512,
      Nat.div_lt_of_lt_mul (((Rect.unit (s := S1x384x5632) ![0, 0, 512 * n.val] S1x384x512.size inb).emb x) 2).isLt⟩ : Fin 11) = n :=
    Fin.ext (by show _ / 512 = n.val; omega)
  show _ = codes a (block M ⟨_, _⟩) (ValueIdx.ix3 (0 : Fin 1) _ _)
  rw [hn]
  refine congrArg (codes a (block M n)) (funext fun b => ?_)
  match b with
  | ⟨0, _⟩ => exact Fin.ext (by show (x 0).val = 0; omega)
  | ⟨1, _⟩ => exact Fin.ext ((Nat.zero_add _).symm.trans h1.symm)
  | ⟨2, _⟩ => exact Fin.ext (by show (x 2).val = _ % 512; omega)

/-- The eleven stores read back. -/
theorem read_codes (v : View sig .tc .vmem S1x384x5632 .fp8e4m3) (f : v.ty.Contents (Elt F)) (a : Vec F S384x128 .f32) (M : Vec F S11x384x512 .f32) :
    v.read (Elt F) (v.writes (Elt F) f (codeList (k0_pay13 (k0_pay8 a) (k0_pay9 a) k0_pay10) M)) = allCodes a M := by
  funext y
  refine View.read_writes_apply_of_pieces v f (allCodes a M) _ (fun p hp x => ?_) y (View.cover_of_tiled (codeList (k0_pay13 (k0_pay8 a) (k0_pay9 a) k0_pay10) M) S1x384x512.size rfl y)
  simp only [codeList, List.mem_cons, List.not_mem_nil, or_false] at hp
  rcases hp with rfl | rfl | rfl | rfl | rfl | rfl | rfl | rfl | rfl | rfl | rfl
  · exact (congrFun (congrArg (codes a) (ld_block M 10 inb_S11x384x512_S1x384x512_10_0_0)) x).trans (piece_eq a M 10 inb_S1x384x5632_S1x384x512_0_0_5120 x)
  · exact (congrFun (congrArg (codes a) (ld_block M 9 inb_S11x384x512_S1x384x512_9_0_0)) x).trans (piece_eq a M 9 inb_S1x384x5632_S1x384x512_0_0_4608 x)
  · exact (congrFun (congrArg (codes a) (ld_block M 8 inb_S11x384x512_S1x384x512_8_0_0)) x).trans (piece_eq a M 8 inb_S1x384x5632_S1x384x512_0_0_4096 x)
  · exact (congrFun (congrArg (codes a) (ld_block M 7 inb_S11x384x512_S1x384x512_7_0_0)) x).trans (piece_eq a M 7 inb_S1x384x5632_S1x384x512_0_0_3584 x)
  · exact (congrFun (congrArg (codes a) (ld_block M 6 inb_S11x384x512_S1x384x512_6_0_0)) x).trans (piece_eq a M 6 inb_S1x384x5632_S1x384x512_0_0_3072 x)
  · exact (congrFun (congrArg (codes a) (ld_block M 5 inb_S11x384x512_S1x384x512_5_0_0)) x).trans (piece_eq a M 5 inb_S1x384x5632_S1x384x512_0_0_2560 x)
  · exact (congrFun (congrArg (codes a) (ld_block M 4 inb_S11x384x512_S1x384x512_4_0_0)) x).trans (piece_eq a M 4 inb_S1x384x5632_S1x384x512_0_0_2048 x)
  · exact (congrFun (congrArg (codes a) (ld_block M 3 inb_S11x384x512_S1x384x512_3_0_0)) x).trans (piece_eq a M 3 inb_S1x384x5632_S1x384x512_0_0_1536 x)
  · exact (congrFun (congrArg (codes a) (ld_block M 2 inb_S11x384x512_S1x384x512_2_0_0)) x).trans (piece_eq a M 2 inb_S1x384x5632_S1x384x512_0_0_1024 x)
  · exact (congrFun (congrArg (codes a) (ld_block M 1 inb_S11x384x512_S1x384x512_1_0_0)) x).trans (piece_eq a M 1 inb_S1x384x5632_S1x384x512_0_0_512 x)
  · exact (congrFun (congrArg (codes a) (ld_block M 0 inb_S11x384x512_S1x384x512_0_0_0)) x).trans (piece_eq a M 0 inb_S1x384x5632_S1x384x512_0_0_0 x)

theorem C_x6 (hc0 : ¬cond0_0 i) (hc1 : cond0_1 i) (hc2 : cond0_2 i) :
    arg8.view.read (Elt F) (arg8.view.writes (Elt F) (harg8.unread x6) (runC c i arg2 harg2 arg3 harg3 arg4 harg4 arg5 harg5 arg6 harg6 arg7 harg7 arg8 harg8 arg9 harg9 arg10 harg10 arg11 harg11 hc0 hc1 hc2 x0 x1 x2 x3 x4 x5 x6 x7 s0 s1).1)
      = allCodes (partOver i x0 x1 x2 x3 x4 x5 s1) (put i s0 (tile i x0 x1 x2 x3 x4 x5)) := by
  refine Eq.trans ?_ (read_codes arg8.view (harg8.unread x6) (partOver i x0 x1 x2 x3 x4 x5 s1) (put i s0 (tile i x0 x1 x2 x3 x4 x5)))
  rw [← read_put arg10.view (harg10.unread s0) i s0 (harg10.read_unread s0) (tile i x0 x1 x2 x3 x4 x5)]
  unfold tile partOver
  frame_out

end Cert.UpIdeal.Run

end
-- ==== Proof.UpIdealRun.lean ====
module

public import proofs.«01_k».proof.Proof.UpIdealTile
public import Idealize.ShloMosaic.Lib.Pipeline.DatRel

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the point computes -/

/-- The block of `m` at a point. -/
def tileAt (c : Dev nD) (t : Fin cfg0.N) : FVec F S1x384x512 .f32 :=
  tile (grid0.coords t) (iblk m c 0 t) (iblk m c 1 t) (iblk m c 2 t) (iblk m c 3 t) (iblk m c 4 t) (iblk m c 5 t)

/-- The lanes' largest magnitudes after a point: begun anew with every batch row. -/
def amaxAt (c : Dev nD) : (n : ℕ) → n < cfg0.N → FVec F S384x128 .f32
  | 0, hn => part (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if (n + 1) % 11 = 0 then
      part (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      partOver (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (amaxAt c n (Nat.lt_of_succ_lt hn))

/-- At a batch row's first block. -/
theorem amaxAt_first (c : Dev nD) (t : Fin cfg0.N) (h : t.val % 11 = 0) :
    amaxAt m c t.val t.isLt = part (grid0.coords t) (iblk m c 0 t) (iblk m c 1 t) (iblk m c 2 t) (iblk m c 3 t) (iblk m c 4 t) (iblk m c 5 t) := by
  obtain ⟨n, hn⟩ := t
  cases n with
  | zero => rfl
  | succ n => exact if_pos h

/-- At a later block. -/
theorem amaxAt_next (c : Dev nD) (t : Fin cfg0.N) (h : ¬t.val % 11 = 0) :
    amaxAt m c t.val t.isLt = partOver (grid0.coords t) (iblk m c 0 t) (iblk m c 1 t) (iblk m c 2 t) (iblk m c 3 t) (iblk m c 4 t) (iblk m c 5 t)
      (amaxAt m c (t.val - 1) (Nat.lt_of_le_of_lt (Nat.sub_le _ _) t.isLt)) := by
  obtain ⟨n, hn⟩ := t
  cases n with
  | zero => exact absurd (Nat.zero_mod _) h
  | succ n => exact if_neg h

/-- The scratch holds every block of the batch row so far. -/
def Good (c : Dev nD) (n : ℕ) (s0 : Vec F S11x384x512 .f32) : Prop :=
  ∀ u : Fin cfg0.N, u.val / 11 = n / 11 → u.val ≤ n → ∀ (r : Fin 384) (k : Fin 512),
    s0 (ValueIdx.ix3 (⟨u.val % 11, Nat.mod_lt _ (by decide)⟩ : Fin 11) r k) = tileAt m c u (ValueIdx.ix3 (0 : Fin 1) r k)

/-- The coordinates of a point. -/
theorem coords_0 : ∀ t : Fin cfg0.N, (grid0.coords t 0).val = t.val / 11 := by decide +kernel
theorem coords_1 : ∀ t : Fin cfg0.N, (grid0.coords t 1).val = t.val % 11 := by decide +kernel

/-- A block read where the point put it. -/
theorem put_self (t : Fin cfg0.N) (s0 : Vec F S11x384x512 .f32) (T : FVec F S1x384x512 .f32) (u : ℕ) (hu : u = t.val) (h : u % 11 < 11) (r : Fin 384) (k : Fin 512) :
    put (grid0.coords t) s0 T (ValueIdx.ix3 (⟨u % 11, h⟩ : Fin 11) r k) = T (ValueIdx.ix3 (0 : Fin 1) r k) := by
  subst hu
  exact if_pos (coords_1 t).symm

/-- A block read elsewhere. -/
theorem put_other (t : Fin cfg0.N) (s0 : Vec F S11x384x512 .f32) (T : FVec F S1x384x512 .f32) (u : ℕ) (hu : u % 11 ≠ t.val % 11) (h : u % 11 < 11) (r : Fin 384) (k : Fin 512) :
    put (grid0.coords t) s0 T (ValueIdx.ix3 (⟨u % 11, h⟩ : Fin 11) r k) = s0 (ValueIdx.ix3 (⟨u % 11, h⟩ : Fin 11) r k) := by
  refine if_neg ?_
  show ¬u % 11 = _
  rw [coords_1]
  exact hu

/-- The first block of a batch row needs nothing of the scratch. -/
theorem good_first (c : Dev nD) (t : Fin cfg0.N) (h : t.val % 11 = 0) (s0 : Vec F S11x384x512 .f32) :
    Good m c t.val (put (grid0.coords t) s0 (tileAt m c t)) := fun u hq hle r k => by
  have hu : u = t := Fin.ext (by omega)
  subst hu
  exact put_self u s0 _ _ rfl _ r k

/-- A later block adds itself to what the scratch holds. -/
theorem good_next (c : Dev nD) (t : Fin cfg0.N) (h : ¬t.val % 11 = 0) (s0 : Vec F S11x384x512 .f32) (hs : Good m c (t.val - 1) s0) :
    Good m c t.val (put (grid0.coords t) s0 (tileAt m c t)) := fun u hq hle r k => by
  by_cases hu : u = t
  · subst hu
    exact put_self u s0 _ _ rfl _ r k
  · have hv : u.val ≠ t.val := fun e => hu (Fin.ext e)
    rw [put_other t s0 _ u.val (by omega)]
    exact hs u (by omega) (by omega) r k

/-- The eleven blocks of a point's batch row. -/
def full (c : Dev nD) (t : Fin cfg0.N) : Vec F S11x384x512 .f32 := fun y =>
  tileAt m c ⟨11 * (t.val / 11) + (y 0).val, by
    have hN : t.val < 55 := lt_of_lt_of_eq t.isLt N_0
    have hy : (y 0).val < 11 := (y 0).isLt
    exact lt_of_lt_of_eq (by omega : 11 * (t.val / 11) + (y 0).val < 55) N_0.symm⟩ (ValueIdx.ix3 (0 : Fin 1) (y 1) (y 2))

/-- After the last block the scratch is all of them. -/
theorem good_full (c : Dev nD) (t : Fin cfg0.N) (h : t.val % 11 = 10) (s0 : Vec F S11x384x512 .f32) (hs : Good m c t.val s0) :
    s0 = full m c t := by
  funext y
  have hN : t.val < 55 := lt_of_lt_of_eq t.isLt N_0
  have hy : (y 0).val < 11 := (y 0).isLt
  have hu : 11 * (t.val / 11) + (y 0).val < cfg0.N := lt_of_lt_of_eq (by omega : 11 * (t.val / 11) + (y 0).val < 55) N_0.symm
  have e := hs ⟨11 * (t.val / 11) + (y 0).val, hu⟩ (by show (11 * (t.val / 11) + (y 0).val) / 11 = _; omega) (by show 11 * (t.val / 11) + (y 0).val ≤ _; omega) (y 1) (y 2)
  refine Eq.trans (congrArg s0 (funext fun a => ?_)) e
  match a with
  | ⟨0, _⟩ => exact Fin.ext (by show (y 0).val = (11 * (t.val / 11) + (y 0).val) % 11; omega)
  | ⟨1, _⟩ => rfl
  | ⟨2, _⟩ => rfl

/-- What the codes' buffer holds after a batch row's last block. -/
def codesAt (c : Dev nD) (t : Fin cfg0.N) : FVec F S1x384x5632 .fp8e4m3 := allCodes (amaxAt m c t.val t.isLt) (full m c t)

/-- What the scales' buffer holds after a point: the row of every batch row finished. -/
def Rows (c : Dev nD) (n : ℕ) (X : Vec F S5x384 .f32) : Prop :=
  ∀ u : Fin cfg0.N, u.val ≤ n → u.val % 11 = 10 → ∀ (b : Fin 5), b.val = u.val / 11 → ∀ r : Fin 384,
    X (ValueIdx.ix2 b r) = scaleRow (amaxAt m c u.val u.isLt) (ValueIdx.ix2 (0 : Fin 1) r)

/-- A point that finishes no batch row leaves the rows as they are. -/
theorem rows_keep (c : Dev nD) (t : Fin cfg0.N) (h : ¬t.val % 11 = 10) (X : Vec F S5x384 .f32)
    (hX : t.val ≠ 0 → Rows m c (t.val - 1) X) : Rows m c t.val X := fun u hle h10 b hb r => by
  have hne : u.val ≠ t.val := fun e => h (e ▸ h10)
  exact hX (by omega) u (by omega) h10 b hb r

/-- A point that finishes a batch row adds its row. -/
theorem rows_add (c : Dev nD) (t : Fin cfg0.N) (h : t.val % 11 = 10) (X : Vec F S5x384 .f32)
    (hX : t.val ≠ 0 → Rows m c (t.val - 1) X) :
    Rows m c t.val (fun y => if (y 0).val = (grid0.coords t 0).val then scaleRow (amaxAt m c t.val t.isLt) (ValueIdx.ix2 (0 : Fin 1) (y 1)) else X y) :=
  fun u hle h10 b hb r => by
  by_cases hu : u = t
  · subst hu
    exact if_pos (hb.trans (coords_0 u).symm)
  · have hv : u.val ≠ t.val := fun e => hu (Fin.ext e)
    refine (if_neg ?_).trans (hX (by omega) u (by omega) h10 b hb r)
    show ¬b.val = _
    rw [coords_0, hb]
    omega

/-! ## The proof data -/

/-- The invariant before position `n`: before the first point the scratch holds anything; afterwards it holds the batch row's
    blocks so far and their lanes' largest magnitudes. -/
def Phi (c : Dev nD) : (n : ℕ) → n ≤ cfg0.N → sProp 𝕄
  | 0, _ => Pipeline.ΦA spec0 c
  | n + 1, hn => iprop(iprop((∃ d, ⌜Good m c n d⌝ ∗ owns (c : Thread nD τ) scM0_0 fullShare d) ∗ owns (c : Thread nD τ) scM0_1 fullShare (amaxAt m c n hn)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ d, ⌜Good m c n d⌝ ∗ owns (c : Thread nD τ) scM0_0 fullShare d) ∗ owns (c : Thread nD τ) scM0_1 fullShare (amaxAt m c n hn)) ∗ (∃ r, prngReg c r)) := rfl

theorem Phi_pos (c : Dev nD) (n : ℕ) (h : n ≤ cfg0.N) (hz : n ≠ 0) :
    Phi m c n h = iprop(iprop((∃ d, ⌜Good m c (n - 1) d⌝ ∗ owns (c : Thread nD τ) scM0_0 fullShare d) ∗ owns (c : Thread nD τ) scM0_1 fullShare (amaxAt m c (n - 1) (by omega))) ∗ (∃ r, prngReg c r)) := by
  cases n with
  | zero => exact absurd rfl hz
  | succ n => rfl

/-- The windows whose contents are described by a predicate: the codes and the scales. -/
def marks : Fin 8 → Bool := fun w => w.val == 6 || w.val == 7

/-- The predicates. -/
def Holds (c : Dev nD) (w : Fin cfg0.W) (t : Fin cfg0.N) (X : (cfg0.win w).block.Idx → (Elt F) (cfg0.win w).elt) : Prop :=
  match w, X with
  | ⟨6, _⟩, X => t.val % 11 = 10 → X = codesAt m c t
  | ⟨7, _⟩, X => Rows m c t.val X
  | _, _ => True

/-- The proof data: each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := Phi m c t.val (Nat.le_of_lt_succ t.isLt)
  q _ := fullShare
  owed _ := 0

/-- The same with the two outputs' predicates. -/
abbrev rdat (c : Dev nD) := (dats m 0 c).toRRel marks (Holds m c)

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An input's buffer after the body. -/
theorem leaves0_0 (c : Dev nD) (t : Fin cfg0.N) : ((dats m 0 c).leaves 0 t : sProp 𝕄) = owns (c : Thread nD τ) (ms0_0 t) fullShare (iblk m c 0 t) := by
  unfold Dat.leaves; rw [liveAt0_0 t, after0_0]
theorem leaves0_1 (c : Dev nD) (t : Fin cfg0.N) : ((dats m 0 c).leaves 1 t : sProp 𝕄) = owns (c : Thread nD τ) (ms0_1 t) fullShare (iblk m c 1 t) := by
  unfold Dat.leaves; rw [liveAt0_1 t, after0_1]
theorem leaves0_2 (c : Dev nD) (t : Fin cfg0.N) : ((dats m 0 c).leaves 2 t : sProp 𝕄) = owns (c : Thread nD τ) (ms0_2 t) fullShare (iblk m c 2 t) := by
  unfold Dat.leaves; rw [liveAt0_2 t, after0_2]
theorem leaves0_3 (c : Dev nD) (t : Fin cfg0.N) : ((dats m 0 c).leaves 3 t : sProp 𝕄) = owns (c : Thread nD τ) (ms0_3 t) fullShare (iblk m c 3 t) := by
  unfold Dat.leaves; rw [liveAt0_3 t, after0_3]
theorem leaves0_4 (c : Dev nD) (t : Fin cfg0.N) : ((dats m 0 c).leaves 4 t : sProp 𝕄) = owns (c : Thread nD τ) (ms0_4 t) fullShare (iblk m c 4 t) := by
  unfold Dat.leaves; rw [liveAt0_4 t, after0_4]
theorem leaves0_5 (c : Dev nD) (t : Fin cfg0.N) : ((dats m 0 c).leaves 5 t : sProp 𝕄) = owns (c : Thread nD τ) (ms0_5 t) fullShare (iblk m c 5 t) := by
  unfold Dat.leaves; rw [liveAt0_5 t, after0_5]

/-- The scales' buffer is never fetched. -/
theorem nofetch_7 : ∀ t : Fin cfg0.N, (cfg0.win 7).fetch t = false := by decide +kernel

/-- What the body finds in the scales' buffer: the rows so far. -/
theorem finds_7 (c : Dev nD) (t : Fin cfg0.N) (Y) (h : (rdat m c).Finds 7 t Y) : t.val ≠ 0 → Rows m c (t.val - 1) Y := fun ht => by
  have hN : t.val < 55 := lt_of_lt_of_eq t.isLt N_0
  have hfe : (cfg0.win 7).fetch t = false := nofetch_7 t
  rcases (Pipeline.RDat.finds_of_pos (rd := rdat m c) hfe ht Y).mp h with h | h
  · exact absurd ((flush0_7 _).mp h) (by show ¬(t.val - 1) % 55 = 54; omega)
  · exact (dats m 0 c).toRRel_leaves (w := 7) rfl h

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, ⌜Holds m c 6 t X⌝ ∗ owns (c : Thread nD τ) (ms0_6 t) fullShare X)
    ∗ (∃ X, ⌜Holds m c 7 t X⌝ ∗ owns (c : Thread nD τ) (ms0_7 t) fullShare X))

set_option maxHeartbeats 9600000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5]
  rw [show (dats m 0 c).owesAt () t.succ = (dats m 0 c).owesAt () t.castSucc from rfl]
  rw [show (dats m 0 c).Φ t.succ = Phi m c (t.val + 1) t.isLt from rfl, Phi_succ, Phi_castSucc m c t]
  have hN : t.val < 55 := lt_of_lt_of_eq t.isLt (show cfg0.N = 55 from N_0)
  by_cases h0 : t.val % 11 = 0
  · have h1 : ¬1 ≤ t.val % 11 := by omega
    have h2 : ¬t.val % 11 = 10 := by omega
    rw [amaxAt_first m c t h0]
    by_cases hz : t.val = 0
    · rw [Phi_zero m c _ _ hz, PhiA0_eq]
      iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runA c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) y6 y7 s0 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_first m c t h0 s0
            unfold owns; iexists _; isplitr
            swap; · iexact HS0
            ipureintro; exact A_s0 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
          unfold owns; iexists _; isplitr
          swap; · iexact HS1
          ipureintro; exact A_s1 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists y6; isplitr; · ipureintro; exact fun h => absurd h h2
        iexact H6
      iexists _; isplitr; · ipureintro; exact rows_keep m c t h2 y7 (finds_7 m c t y7 hy7)
      iexact H7
    · rw [Phi_pos m c _ _ hz]
      iintro ⟨⟨⟨⟨%s0, %hs0, HS0⟩, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runA c (grid0.coords t) _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) y6 y7 s0 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_first m c t h0 s0
            unfold owns; iexists _; isplitr
            swap; · iexact HS0
            ipureintro; exact A_s0 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
          unfold owns; iexists _; isplitr
          swap; · iexact HS1
          ipureintro; exact A_s1 c (grid0.coords t) _ _ _ _ _ _ _ _ _ _ _ _ _ _ _ _ _ _ _ _ _ _ _ _ _ _ _ _ _ _ ((hcond0_0 t).mpr h0) (fun h => h1 ((hcond0_1 t).mp h)) (fun h => h2 ((hcond0_2 t).mp h))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists y6; isplitr; · ipureintro; exact fun h => absurd h h2
        iexact H6
      iexists _; isplitr; · ipureintro; exact rows_keep m c t h2 y7 (finds_7 m c t y7 hy7)
      iexact H7
  · have h1 : 1 ≤ t.val % 11 := by omega
    have hz : t.val ≠ 0 := by omega
    rw [amaxAt_next m c t h0, Phi_pos m c _ _ hz]
    by_cases h2 : t.val % 11 = 10
    · iintro ⟨⟨⟨⟨%s0, %hs0, HS0⟩, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runC c (grid0.coords t) _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) y6 y7 s0 _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_next m c t h0 s0 hs0
            unfold owns; iexists _; isplitr
            swap; · iexact HS0
            ipureintro; exact C_s0 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
          unfold owns; iexists _; isplitr
          swap; · iexact HS1
          ipureintro; exact C_s1 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap
        · unfold owns; iexists _; isplitr
          swap; · iexact H6
          ipureintro; exact C_x6 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
        · ipureintro; intro _; rw [← amaxAt_next m c t h0]
          exact congrArg _ (good_full m c t h2 _ (good_next m c t h0 s0 hs0))
      iexists _; isplitr; swap
      · unfold owns; iexists _; isplitr
        swap; · iexact H7
        ipureintro; exact C_x7 c (grid0.coords t) _ _ _ _ _ _ _ _ _ _ _ _ _ _ _ _ _ _ _ _ _ _ _ _ _ _ _ _ _ _ (fun h => h0 ((hcond0_0 t).mp h)) ((hcond0_1 t).mpr h1) ((hcond0_2 t).mpr h2)
      · ipureintro; rw [← amaxAt_next m c t h0]
        exact rows_add m c t h2 y7 (finds_7 m c t y7 hy7)
    · iintro ⟨⟨⟨⟨%s0, %hs0, HS0⟩, HS1⟩, Hg⟩, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩⟩
      iapply ((runB c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) y6 y7 s0 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; isplitr; · ipureintro; exact good_next m c t h0 s0 hs0
            unfold owns; iexists _; isplitr
            swap; · iexact HS0
            ipureintro; exact B_s0 c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h))
          unfold owns; iexists _; isplitr
          swap; · iexact HS1
          ipureintro; exact B_s1 c (grid0.coords t) _ _ _ _ _ _ _ _ _ _ _ _ _ _ _ _ _ _ _ _ _ _ _ _ _ _ _ _ _ _ (fun h => h0 ((hcond0_0 t).mp h)) ((hcond0_1 t).mpr h1) (fun h => h2 ((hcond0_2 t).mp h))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists y6; isplitr; · ipureintro; exact fun h => absurd h h2
        iexact H6
      iexists _; isplitr; · ipureintro; exact rows_keep m c t h2 y7 (finds_7 m c t y7 hy7)
      iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : Pipeline.BodyObligationRel (dats (F := F) m 0 c) (defs₀ (F := F)) Variants.none () Set.univ marks (Holds m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 55 := N_0; omega
  rw [show (dats m 0 c).Φ (Fin.last cfg0.N) = Phi m c (Fin.last cfg0.N).val (Nat.le_of_lt_succ (Fin.last cfg0.N).isLt) from rfl, Phi_pos m c _ _ ht, PhiA0_eq]
  iintro ⟨⟨⟨%d, -, HS0⟩, HS1⟩, Hg⟩
  isplitl [HS0 HS1]
  · isplitl [HS0]
    · iexists _; iexact HS0
    iexists _; iexact HS1
  iexact Hg

/-! ## The launch -/

/-- The launch over data whose outputs are held to predicates, for any data. -/
theorem launch_of (dat : (p : Fin 1) → (c : Dev nD) → Dat τ (Elt F) Unit ℕ (UR sig nD τ) ℕ (cfgs p) c)
    (fgt : Fin (cfgs 0).W → Bool) (Rl : (c : Dev nD) → (w : Fin (cfgs 0).W) → Fin (cfgs 0).N → (((cfgs 0).win w).block.Idx → (Elt F) ((cfgs 0).win w).elt) → Prop)
    (hbody : ∀ c, Pipeline.BodyObligationRel (dat 0 c) (defs₀ (F := F)) Variants.none () Set.univ fgt (Rl c))
    (hshare : ∀ c w, (dat 0 c).share w = fullShare) (howed : ∀ c t, (dat 0 c).owed t = 0)
    (hA : ∀ c w, (dat 0 c).A w = V m c (Pipeline.arrRef (cfgs 0).spec w))
    (hin : ∀ c, Pipeline.ΦA (cfgs 0).spec c ⊢ (dat 0 c).Φ 0) (hout : ∀ c, (dat 0 c).Φ (Fin.last (cfgs 0).N) ⊢ Pipeline.ΦA (cfgs 0).spec c) :
    θ_run defs (onTc (τ := τ) (main (F := F))) (s₀ m ρ) (fun r => (Pipeline.RDat.FramePost (cfgs 0) (fun c => (dat 0 c).toRRel fgt (Rl c)) (V m)) r ∧ r.2.sem = fun _ => 0) :=
  Pipeline.RDat.θ_run_frame_track (Q' := _) cfgs (0 : Fin 1) launch0 defs₀ Variants.none (fun c => (dat 0 c).toRRel fgt (Rl c)) m ρ main
    (hbody := fun c => (hbody c).toRRel) (hshare := hshare) (howed := howed) (V := V m) (hmain := hmain m Variants.none) (hA := hA) (hin := hin) (hout := hout)
    (hQ' := fun _ h => h)

set_option backward.isDefEq.respectTransparency.types false in
/-- The launch: every run ends with the two outputs as their predicates say and all counters at zero. -/
theorem run_main : θ_run defs (onTc (τ := τ) (main (F := F))) (s₀ m ρ) (fun r => (Pipeline.RDat.FramePost (cfgs 0) (fun c => rdat m c) (V m)) r ∧ r.2.sem = fun _ => 0) :=
  launch_of m ρ (dats m) marks (Holds m) (body_obligation m) (fun c => (dats m 0 c).share_full fun _ => rfl) (fun _ _ => rfl) (A_eq m) (hin m) (hout m)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
      (Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c)⟩, hr.2⟩)
    (run_main m ρ)

end Cert.UpIdeal.Run

end
-- ==== Proof.Quant.lean ====
module

public import proofs.«01_k».proof.Defs
public import Idealize.ShloMosaic.PureOps.Ideal.Laws
public import Idealize.ShloMosaic.Lib.IdealHost

/-!
The quantiser's scale, over the extended reals.

For a row whose largest magnitude is 448 times `x`, the scale is a power of two `2 ^ e` with
`2 ^ (e - 1) ≤ x < 2 ^ e`, except that `e` is 0 for an `x` below the smallest normal number or infinite,
and at most 128.  The kernel finds `e` with an eight step binary search over biased exponents and builds
the scale and its reciprocal from their exponent fields.  The reference takes a logarithm, rounds it down
and raises two to the result.  The theorems `scale_eq` and `inverse_eq` say that the two agree for every
`x` that is not negative.
-/

@[expose] public section

noncomputable section

namespace Cert.Quant

open Idealize.ShloMosaic

/-! ### The kernel's side -/

/-- The number whose exponent field is `w`: a positive power of two. -/
def word (w : BitVec 32) : EReal := Ideal.ofBits .f32 (IntOp.shli .vector w 23#32)

/-- One step of the search: bit `b` is set in `v` if the power of two it gives is at most `x`. -/
def step (x : EReal) (b v : BitVec 32) : BitVec 32 :=
  Scalar.select (Ideal.cmp .oge x (word (IntOp.ori v b))) (IntOp.ori v b) v

/-- A step on a whole array is a step at each index. -/
theorem step_apply {s : Shape} (X : FVec Ideal s .f32) (b : BitVec 32) (v : IVec s 32) (i : s.Idx) :
    select (cmpf .oge X (bitcastToFloat .f32 (shli (ori v (broadcast s b)) (broadcast s 23#32)))) (ori v (broadcast s b)) v i
      = step (X i) b (v i) := rfl

/-- The first five steps. -/
def high (x : EReal) : BitVec 32 := step x 8#32 (step x 16#32 (step x 32#32 (step x 64#32 (step x 128#32 0#32))))

/-- All eight steps: the biased exponent of `x`. -/
def biased (x : EReal) : BitVec 32 := step x 1#32 (step x 2#32 (step x 4#32 (high x)))

/-- The exponent of the scale. -/
def expo (x : EReal) : BitVec 32 :=
  Scalar.select (IntOp.ori (IntOp.cmpi .eq (biased x) 0#32) (IntOp.cmpi .eq (biased x) 255#32)) 0#32
    (IntOp.subi (biased x) 126#32)

/-- The scale. -/
def scale (x : EReal) : EReal := word (IntOp.addi (expo x) 127#32)

/-- The scale's reciprocal. -/
def inverse (x : EReal) : EReal := word (IntOp.subi 127#32 (expo x))

/-! ### The reference's side -/

/-- The exponent of the scale, from a logarithm. -/
def expoRef (x : EReal) : EReal :=
  Scalar.select (IntOp.ori (BitVec.ofBool (decide (x < Ideal.ofBits .f32 8388608#32)))
      (BitVec.ofBool (decide (x = Ideal.ofBits .f32 2139095040#32))))
    0
    (min (Ideal.liftRound Int.floor (Ideal.div (Ideal.log x) (Ideal.log (Ideal.ofBits .f32 1073741824#32))) + 1)
      (Ideal.ofBits .f32 1124073472#32))

/-- The scale. -/
def scaleRef (x : EReal) : EReal :=
  if Ideal.ofBits .f32 1123942400#32 < expoRef x then Ideal.ofBits .f32 2139095040#32
  else FloatOps.exp2 (F := Ideal) (φ := .f32) (expoRef x)

/-- The scale's reciprocal. -/
def inverseRef (x : EReal) : EReal :=
  if Ideal.ofBits .f32 1123942400#32 < expoRef x then Ideal.ofBits .f32 4286578688#32
  else if Ideal.ofBits .f32 1123811328#32 < expoRef x then 0
  else FloatOps.exp2 (F := Ideal) (φ := .f32) (0 - expoRef x)

/-! ### Rows -/

/-- A magnitude. -/
def mag (x : EReal) : EReal := FloatOps.absf (F := Ideal) (φ := .f32) x

theorem mag_eq (x : EReal) : mag x = max x (-x) := rfl

/-- A row's largest entry, over 448. -/
def level {n : ℕ} (v : Fin n → EReal) : EReal :=
  (Finset.univ.fold max (Ideal.ofBits .f32 4286578688#32) v) * Ideal.ofBits .f32 991054117#32

/-- A scaled value, clipped to what the 8-bit format holds. -/
def clip (x : EReal) : EReal :=
  min (Ideal.ofBits .f32 1138753536#32) (max (Ideal.ofBits .f32 3286237184#32) x)

/-! ### Powers of two -/

/-- `word` at a small number. -/
def W (t : ℕ) : EReal := word (BitVec.ofNat 32 t)

theorem fields : ∀ t : Fin 256,
    (((BitVec.ofNat 32 t.val <<< 23#32).extractLsb' (8 + 23) 1 == 1#1) = false ∧
    ((BitVec.ofNat 32 t.val <<< 23#32).extractLsb' 23 8).toNat = t.val ∧
    ((BitVec.ofNat 32 t.val <<< 23#32).extractLsb' 0 23).toNat = 0) := by decide +kernel

theorem W_eq (t : ℕ) (h : t < 256) : W t = if t = 255 then ⊤ else if t = 0 then 0 else
    (((2 : ℝ) ^ ((t : ℤ) - 127) : ℝ) : EReal) := by
  obtain ⟨h1, h2, h3⟩ := fields ⟨t, h⟩
  simp only at h1 h2 h3
  have e : IntOp.shli .vector (BitVec.ofNat 32 t) 23#32 = BitVec.ofNat 32 t <<< 23#32 := by
    simp [IntOp.shli]
  have r : (1 : ℝ) * ((2 ^ 23 + 0 : ℕ) : ℝ) * (2 : ℝ) ^ ((t : ℤ) - (2 ^ (8 - 1) - 1) - (23 : ℕ)) = (2 : ℝ) ^ ((t : ℤ) - 127) := by
    rw [show (t : ℤ) - 127 = 23 + ((t : ℤ) - (2 ^ (8 - 1) - 1) - (23 : ℕ)) by norm_num, zpow_add₀ (by norm_num)]
    norm_num
  unfold W word
  rw [e]
  show Ideal.ieee 8 23 _ = _
  unfold Ideal.ieee
  simp only [h1, h2, h3, Bool.false_eq_true, if_false]
  by_cases a : t = 255
  · subst a; simp
  by_cases b : t = 0
  · subst b; simp
  rw [if_neg (by omega), if_neg b, if_neg a, if_neg b]
  exact congrArg Real.toEReal r

theorem ofBits_ieee (w : BitVec 32) : Ideal.ofBits .f32 w = Ideal.ieee 8 23 w := rfl

theorem W_neg : word (IntOp.subi 127#32 128#32) = ⊥ := by
  have h : IntOp.shli .vector (IntOp.subi 127#32 128#32) 23#32 = 0xFF800000#32 := by decide
  have f : ((0xFF800000#32).extractLsb' (8 + 23) 1 == 1#1) = true ∧ ((0xFF800000#32).extractLsb' 23 8).toNat = 255 ∧
    ((0xFF800000#32).extractLsb' 0 23).toNat = 0 := by decide
  unfold word
  rw [h, ofBits_ieee]
  unfold Ideal.ieee
  simp only [f.1, f.2.1, f.2.2]
  simp

theorem ofBits_w (t : ℕ) (b : BitVec 32) (h : IntOp.shli .vector (BitVec.ofNat 32 t) 23#32 = b) :
    Ideal.ofBits .f32 b = W t := by subst h; rfl

theorem ofBits_two : Ideal.ofBits .f32 0x40000000#32 = ((2 : ℝ) : EReal) := by
  rw [ofBits_w 128 _ (by decide), W_eq _ (by norm_num)]; norm_num

theorem ofBits_least : Ideal.ofBits .f32 0x00800000#32 = W 1 := ofBits_w 1 _ (by decide)

theorem ofBits_top : Ideal.ofBits .f32 0x7F800000#32 = (⊤ : EReal) := by
  rw [ofBits_w 255 _ (by decide), W_eq _ (by norm_num)]; norm_num

theorem ofBits_bot : Ideal.ofBits .f32 0xFF800000#32 = (⊥ : EReal) := W_neg

theorem ofBits_128 : Ideal.ofBits .f32 0x43000000#32 = ((128 : ℝ) : EReal) := by
  rw [ofBits_w 134 _ (by decide), W_eq _ (by norm_num)]; norm_num

theorem ofBits_126 : Ideal.ofBits .f32 0x42FC0000#32 = ((126 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

/-! ### The search -/

theorem ori_eq : ∀ b : Fin 256, ∀ k : Fin 8, b.val % (2 * 2 ^ k.val) = 0 →
    IntOp.ori (BitVec.ofNat 32 b.val) (BitVec.ofNat 32 (2 ^ k.val)) = BitVec.ofNat 32 (b.val + 2 ^ k.val) := by
  decide +kernel

theorem select_true {α : Type} (p : Prop) [Decidable p] (a b : α) (h : p) :
    Scalar.select (BitVec.ofBool (decide p)) a b = a := by simp [Scalar.select, h]

theorem select_false {α : Type} (p : Prop) [Decidable p] (a b : α) (h : ¬p) :
    Scalar.select (BitVec.ofBool (decide p)) a b = b := by simp [Scalar.select, h]

/-- What is known of the search when the lowest bit still open is `n / 2`: the value found so far is a
    multiple of `n`, its power of two is at most `x`, and `n` more would be too much. -/
def Found (x : EReal) (n : ℕ) (v : BitVec 32) : Prop :=
  ∃ b : ℕ, v = BitVec.ofNat 32 b ∧ b % n = 0 ∧ b + n ≤ 256 ∧ W b ≤ x ∧ (b + n < 256 → x < W (b + n))

theorem found_step (x : EReal) (k : ℕ) (hk : k < 8) (v : BitVec 32) (h : Found x (2 * 2 ^ k) v) :
    Found x (2 ^ k) (step x (BitVec.ofNat 32 (2 ^ k)) v) := by
  obtain ⟨b, rfl, hb, hle, hx, hlt⟩ := h
  have hp : 0 < 2 ^ k := by positivity
  have ho : IntOp.ori (BitVec.ofNat 32 b) (BitVec.ofNat 32 (2 ^ k)) = BitVec.ofNat 32 (b + 2 ^ k) :=
    ori_eq ⟨b, by omega⟩ ⟨k, hk⟩ hb
  have hd : b % 2 ^ k = 0 := Nat.mod_eq_zero_of_dvd ((Dvd.intro_left 2 rfl).trans (Nat.dvd_of_mod_eq_zero hb))
  unfold step
  rw [ho]
  by_cases c : W (b + 2 ^ k) ≤ x
  · refine ⟨b + 2 ^ k, select_true _ _ _ c, by simp [hd], by omega, c, fun g => ?_⟩
    rw [show b + 2 ^ k + 2 ^ k = b + 2 * 2 ^ k by ring] at g ⊢
    exact hlt g
  · exact ⟨b, select_false _ _ _ c, hd, by omega, hx, fun _ => lt_of_not_ge c⟩

theorem biased_eq (x : EReal) (hx : 0 ≤ x) :
    ∃ b : ℕ, biased x = BitVec.ofNat 32 b ∧ b < 256 ∧ W b ≤ x ∧ (b < 255 → x < W (b + 1)) := by
  have h : Found x (2 * 2 ^ 7) 0#32 :=
    ⟨0, rfl, rfl, by norm_num, by rw [W_eq 0 (by norm_num)]; simpa using hx, fun g => absurd g (by norm_num)⟩
  have h7 := found_step x 7 (by norm_num) _ h
  have h6 := found_step x 6 (by norm_num) _ h7
  have h5 := found_step x 5 (by norm_num) _ h6
  have h4 := found_step x 4 (by norm_num) _ h5
  have h3 := found_step x 3 (by norm_num) _ h4
  have h2 := found_step x 2 (by norm_num) _ h3
  have h1 := found_step x 1 (by norm_num) _ h2
  obtain ⟨b, e, -, hb, hw, hl⟩ := found_step x 0 (by norm_num) _ h1
  exact ⟨b, e, by omega, hw, fun g => hl (by omega)⟩

/-! ### The exponent from the logarithm -/

theorem floor_log (r : ℝ) (k : ℤ) (h0 : (2 : ℝ) ^ k ≤ r) (h1 : r < (2 : ℝ) ^ (k + 1)) :
    Ideal.liftRound Int.floor (Ideal.div (Ideal.log ((r : ℝ) : EReal)) (Ideal.log (Ideal.ofBits .f32 0x40000000#32)))
      = (((k : ℤ) : ℝ) : EReal) := by
  have hr : 0 < r := lt_of_lt_of_le (by positivity) h0
  have hl2 : Real.log 2 ≠ 0 := (Real.log_pos (by norm_num)).ne'
  rw [ofBits_two]
  show Ideal.liftRound Int.floor (Ideal.div (if r ≤ 0 then ⊥ else (Real.log r : EReal)) (if (2 : ℝ) ≤ 0 then ⊥ else (Real.log 2 : EReal))) = _
  rw [if_neg (by linarith), if_neg (by norm_num), Ideal.div_coe hl2, ← EReal.coe_mul]
  show (((⌊Real.log r * (1 / Real.log 2)⌋ : ℤ) : ℝ) : EReal) = _
  rw [show ⌊Real.log r * (1 / Real.log 2)⌋ = k from ?_]
  have hp : 0 < Real.log 2 := Real.log_pos (by norm_num)
  rw [mul_one_div, Int.floor_eq_iff, le_div_iff₀ hp, div_lt_iff₀ hp]
  constructor
  · rw [← Real.log_zpow]; exact Real.log_le_log (by positivity) h0
  · have := Real.log_lt_log hr h1
    rw [Real.log_zpow] at this; push_cast at this; exact this

theorem exp2_int (k : ℤ) : Ideal.exp2 ((((k : ℤ) : ℝ)) : EReal) = (((2 : ℝ) ^ k : ℝ) : EReal) := by
  show ((Real.rpow 2 (k : ℝ) : ℝ) : EReal) = _
  rw [← Real.rpow_intCast]; rfl

/-! ### The two sides agree -/

theorem fields_scale : ∀ b : Fin 256,
    IntOp.addi (Scalar.select (IntOp.ori (IntOp.cmpi .eq (BitVec.ofNat 32 b.val) 0#32) (IntOp.cmpi .eq (BitVec.ofNat 32 b.val) 255#32))
      0#32 (IntOp.subi (BitVec.ofNat 32 b.val) 126#32)) 127#32
      = BitVec.ofNat 32 (if b.val = 0 ∨ b.val = 255 then 127 else b.val + 1) := by decide +kernel

theorem fields_inverse : ∀ b : Fin 256,
    IntOp.subi 127#32 (Scalar.select (IntOp.ori (IntOp.cmpi .eq (BitVec.ofNat 32 b.val) 0#32) (IntOp.cmpi .eq (BitVec.ofNat 32 b.val) 255#32))
      0#32 (IntOp.subi (BitVec.ofNat 32 b.val) 126#32))
      = if b.val = 254 then IntOp.subi 127#32 128#32 else BitVec.ofNat 32 (if b.val = 0 ∨ b.val = 255 then 127 else 253 - b.val) := by
  decide +kernel

theorem scale_of (x : EReal) (b : ℕ) (hb : b < 256) (h : biased x = BitVec.ofNat 32 b) :
    scale x = W (if b = 0 ∨ b = 255 then 127 else b + 1) := by
  unfold scale expo W
  rw [h, fields_scale ⟨b, hb⟩]

theorem inverse_of (x : EReal) (b : ℕ) (hb : b < 256) (h : biased x = BitVec.ofNat 32 b) :
    inverse x = if b = 254 then ⊥ else W (if b = 0 ∨ b = 255 then 127 else 253 - b) := by
  have f := fields_inverse ⟨b, hb⟩
  simp only at f
  unfold inverse expo
  rw [h, f]
  by_cases h4 : b = 254
  · rw [if_pos h4, if_pos h4, W_neg]
  · rw [if_neg h4, if_neg h4, W]

theorem real_of (x : EReal) (k : ℤ) (h : (((2 : ℝ) ^ k : ℝ) : EReal) ≤ x) (ht : x < ⊤) :
    ∃ r : ℝ, x = (r : EReal) ∧ (2 : ℝ) ^ k ≤ r := by
  induction x with
  | bot => exact absurd (le_bot_iff.mp h) (EReal.coe_ne_bot _)
  | top => exact absurd ht (lt_irrefl _)
  | coe r => exact ⟨r, rfl, EReal.coe_le_coe_iff.mp h⟩

theorem or_left (p q : BitVec 1) (h : p = 1#1) : IntOp.ori p q = 1#1 := by
  subst h; revert q; decide

theorem or_right (p q : BitVec 1) (h : q = 1#1) : IntOp.ori p q = 1#1 := by
  subst h; revert p; decide

theorem expoRef_of (x : EReal) (b : ℕ) (hb : b < 256) (hl : W b ≤ x) (hu : b < 255 → x < W (b + 1)) :
    expoRef x = (((if b = 0 ∨ b = 255 then 0 else (b : ℤ) - 126 : ℤ) : ℝ) : EReal) := by
  have z : (0 : EReal) = (((0 : ℤ) : ℝ) : EReal) := by norm_num
  unfold expoRef
  by_cases h0 : b = 0
  · subst h0
    rw [or_left _ _ (by rw [ofBits_least]; simp [hu (by norm_num)])]
    simpa [Scalar.select] using z
  by_cases h5 : b = 255
  · subst h5
    rw [W_eq _ hb, if_pos rfl] at hl
    rw [or_right _ _ (by rw [ofBits_top]; simp [top_le_iff.mp hl])]
    simpa [Scalar.select] using z
  have hu := hu (by omega)
  have hw1 : W 1 ≤ x := by
    refine le_trans ?_ hl
    rw [W_eq 1 (by norm_num), W_eq b hb, if_neg (by norm_num), if_neg (by norm_num), if_neg h5, if_neg h0]
    exact EReal.coe_le_coe_iff.mpr (zpow_le_zpow_right₀ (by norm_num) (by omega))
  have ht : x < ⊤ := lt_of_lt_of_le hu le_top
  rw [W_eq b hb, if_neg h5, if_neg h0] at hl
  obtain ⟨r, rfl, hr⟩ := real_of x _ hl ht
  have hr0 : 0 < r := lt_of_lt_of_le (by positivity) hr
  have c1 : BitVec.ofBool (decide ((r : EReal) < Ideal.ofBits .f32 8388608#32)) = 0#1 := by
    rw [ofBits_least]; simp [not_lt.mpr hw1]
  have c2 : BitVec.ofBool (decide ((r : EReal) = Ideal.ofBits .f32 2139095040#32)) = 0#1 := by
    rw [ofBits_top]; simp
  rw [c1, c2, if_neg (by omega), ofBits_128]
  obtain ⟨k, hk0, hk1⟩ := exists_mem_Ico_zpow hr0 (by norm_num : (1 : ℝ) < 2)
  rw [floor_log r k hk0 hk1]
  have hle : (b : ℤ) - 127 < k + 1 := (zpow_lt_zpow_iff_right₀ (by norm_num : (1 : ℝ) < 2)).mp (hr.trans_lt hk1)
  show min ((((k : ℤ) : ℝ) : EReal) + 1) ((128 : ℝ) : EReal) = _
  rw [← EReal.coe_one, ← EReal.coe_add]
  by_cases h4 : b = 254
  · subst h4
    have : (128 : ℝ) ≤ (k : ℝ) + 1 := by norm_cast
    rw [min_eq_right (EReal.coe_le_coe_iff.mpr this)]; norm_num
  · rw [W_eq (b + 1) (by omega), if_neg (by omega), if_neg (by omega)] at hu
    have hu := EReal.coe_lt_coe_iff.mp hu
    have hlt : k < ((b + 1 : ℕ) : ℤ) - 127 := (zpow_lt_zpow_iff_right₀ (by norm_num : (1 : ℝ) < 2)).mp (hk0.trans_lt hu)
    have e : k = (b : ℤ) - 127 := by push_cast at hlt; omega
    have : (k : ℝ) + 1 ≤ 128 := by norm_cast; omega
    rw [min_eq_left (EReal.coe_le_coe_iff.mpr this), e, EReal.coe_eq_coe_iff]; push_cast; ring

theorem not_lt_127 (k : ℤ) (h : k ≤ 127) : ¬((127 : ℝ) < (k : ℝ)) := not_lt.mpr (by exact_mod_cast h)

theorem not_lt_126 (k : ℤ) (h : k ≤ 126) : ¬((126 : ℝ) < (k : ℝ)) := not_lt.mpr (by exact_mod_cast h)

theorem exp2_neg (k : ℤ) : FloatOps.exp2 (F := Ideal) (φ := .f32) (0 - ((((k : ℤ) : ℝ)) : EReal)) = (((2 : ℝ) ^ (-k) : ℝ) : EReal) := by
  rw [← exp2_int, zero_sub, ← EReal.coe_neg, ← Int.cast_neg]; rfl

theorem exp2_pos (k : ℤ) : FloatOps.exp2 (F := Ideal) (φ := .f32) ((((k : ℤ) : ℝ)) : EReal) = (((2 : ℝ) ^ k : ℝ) : EReal) := exp2_int k

/-- The kernel's scale is the reference's. -/
theorem scale_eq (x : EReal) (hx : 0 ≤ x) : scale x = scaleRef x := by
  obtain ⟨b, e, hb, hl, hu⟩ := biased_eq x hx
  rw [scale_of x b hb e]
  unfold scaleRef
  rw [expoRef_of x b hb hl hu, ofBits_127, ofBits_top, exp2_pos]
  simp only [EReal.coe_lt_coe_iff]
  by_cases h : b = 0 ∨ b = 255
  · rw [if_pos h, if_pos h, if_neg (by norm_num), W_eq _ (by norm_num)]; norm_num
  · rw [if_neg h, if_neg h]
    by_cases h4 : b = 254
    · subst h4; rw [if_pos (by norm_num), W_eq _ (by norm_num)]; norm_num
    · rw [if_neg (not_lt_127 _ (by omega)), W_eq _ (by omega), if_neg (by omega), if_neg (by omega)]
      congr 2; push_cast; ring

/-- The kernel's reciprocal of the scale is the reference's. -/
theorem inverse_eq (x : EReal) (hx : 0 ≤ x) : inverse x = inverseRef x := by
  obtain ⟨b, e, hb, hl, hu⟩ := biased_eq x hx
  rw [inverse_of x b hb e]
  unfold inverseRef
  rw [expoRef_of x b hb hl hu, ofBits_127, ofBits_126, ofBits_bot, exp2_neg]
  simp only [EReal.coe_lt_coe_iff]
  by_cases h : b = 0 ∨ b = 255
  · rw [if_pos h, if_pos h, if_neg (by omega), if_neg (by norm_num), if_neg (by norm_num),
      W_eq _ (by norm_num)]
    norm_num
  · rw [if_neg h, if_neg h]
    by_cases h4 : b = 254
    · subst h4; rw [if_pos (by norm_num)]; norm_num
    · rw [if_neg h4, if_neg (not_lt_127 _ (by omega))]
      by_cases h3 : b = 253
      · subst h3; rw [if_pos (by norm_num), W_eq _ (by norm_num)]; norm_num
      · rw [if_neg (not_lt_126 _ (by omega)), W_eq _ (by omega), if_neg (by omega), if_neg (by omega)]
        congr 2; omega

end Cert.Quant
-- ==== Proof.UpSpec.lean ====
/-
  The up projection's mathematics over the extended reals: one entry of `m`, the array that is quantised.
-/
module

public import proofs.«01_k».proof.Proof.Quant
public import Idealize.ShloMosaic.Lib.Pointwise

@[expose] public section

noncomputable section

open Idealize.ShloMosaic

namespace Cert.UpEq

/-- f32's nearest to the square root of 2048. -/
def root : EReal := Ideal.ofBits FTy.f32 1110770931#32

/-- One entry of `m` from the token's codes and scale, the two weight rows' codes and scales, and the entries of `s_u`
    and `s_v`. -/
def entry (hc : Fin 2048 → EReal) (hs : EReal) (w0 w1 : Fin 2048 → EReal) (ws0 ws1 su sv : EReal) : EReal :=
  su * ((∑ x, hc x * w0 x) * hs * ws0) *
    (sv * root * ((∑ x, hc x * w1 x) * hs * ws1) * Ideal.logistic (sv * root * ((∑ x, hc x * w1 x) * hs * ws1)))

theorem entry_congr {hc hc' : Fin 2048 → EReal} {hs hs' : EReal} {w0 w0' w1 w1' : Fin 2048 → EReal}
    {ws0 ws0' ws1 ws1' su su' sv sv' : EReal} (h1 : ∀ x, hc x = hc' x) (h2 : hs = hs') (h3 : ∀ x, w0 x = w0' x)
    (h4 : ∀ x, w1 x = w1' x) (h5 : ws0 = ws0') (h6 : ws1 = ws1') (h7 : su = su') (h8 : sv = sv') :
    entry hc hs w0 w1 ws0 ws1 su sv = entry hc' hs' w0' w1' ws0' ws1' su' sv' := by
  obtain rfl := funext h1; obtain rfl := h2; obtain rfl := funext h3; obtain rfl := funext h4
  obtain rfl := h5; obtain rfl := h6; obtain rfl := h7; obtain rfl := h8
  rfl

open Cert.UpIdeal Cert.Quant

section Arrays

variable (hc : FVec Ideal S5x384x2048 .fp8e4m3) (hs : FVec Ideal S5x384 .f32) (w : FVec Ideal S2x5632x2048 .fp8e4m3)
  (ws : FVec Ideal S2x5632 .f32) (su sv : FVec Ideal S5632 .f32)

/-- The array `m` from the argument arrays. -/
def mAt (b : Fin 5) (r : Fin 384) (k : Fin 5632) : EReal :=
  entry (fun x => hc (ix3 b r x)) (hs (ix2 b r)) (fun x => w (ix3 0 k x)) (fun x => w (ix3 1 k x)) (ws (ix2 0 k)) (ws (ix2 1 k))
    (su (ix1 k)) (sv (ix1 k))

/-- What a token's scale is taken from. -/
def levelAt (b : Fin 5) (r : Fin 384) : EReal := level fun k => mag (mAt hc hs w ws su sv b r k)

/-- The array of codes. -/
def codesOf : FVec Ideal S5x384x5632 .fp8e4m3 := fun i =>
  clip (mAt hc hs w ws su sv (i 0) (i 1) (i 2) * inverseRef (levelAt hc hs w ws su sv (i 0) (i 1)))

/-- The array of scales. -/
def scalesOf : FVec Ideal S5x384 .f32 := fun i => scaleRef (levelAt hc hs w ws su sv (i 0) (i 1))

end Arrays

end Cert.UpEq

end
-- ==== Proof.UpBlock.lean ====
/-
  The up projection: what one block of the kernel computes at an index.
-/
module

public import proofs.«01_k».proof.Proof.UpIdealTile
public import proofs.«01_k».proof.Proof.UpSpec
public import Idealize.ShloMosaic.Lib.Pointwise

@[expose] public section

set_option maxRecDepth 16384

noncomputable section

open Idealize.ShloMosaic

namespace Cert.UpEq

open Cert.Quant

section Kernel

open Cert.UpIdeal Cert.UpIdeal.Gen Cert.UpIdeal.Run

/-- The kernel's block of `m`. -/
theorem kernel_tile (v1 : Vec Ideal S1x384 .f32) (x0 : Vec Ideal S1x384x2048 .fp8e4m3) (w1 : Vec Ideal S1x512x2048 .fp8e4m3)
    (s1 : Vec Ideal S1x1x512 .f32) (w0 : Vec Ideal S1x512x2048 .fp8e4m3) (s0 : Vec Ideal S1x1x512 .f32)
    (x4 x5 : Vec Ideal S1x512 .f32) (z : Fin 1) (r : Fin 384) (k : Fin 512) :
    k0_pay2 (k0_pay24 v1 x0 w1 s1) (k0_pay25 v1 x0 w0 s0 x4) (k0_pay26 x5) (Run.root (F := Ideal)) (ix3 z r k)
      = entry (fun x => x0 (ix3 0 r x)) (v1 (ix2 0 r)) (fun x => w0 (ix3 0 k x)) (fun x => w1 (ix3 0 k x))
          (s0 (ix3 0 0 k)) (s1 (ix3 0 0 k)) (x4 (ix2 0 k)) (x5 (ix2 0 k)) := by
  pointwise [k0_pay2, k0_pay1, k0_pay24, k0_pay25, k0_pay26, k0_pay23]
  simp only [dite_eq_ite, ite_self]
  rfl

/-- The lanes' largest magnitudes of a block, from the block's entries. -/
theorem kernel_part (g u : FVec Ideal S384x512 .f32) (s : FVec Ideal S1x512 .f32) (c : EReal) (r : Fin 384) (l : Fin 128) :
    k0_pay4 g u s c (ix2 r l)
      = max (max (max (mag (k0_pay1 g u s c (ix2 r ⟨l.val, by omega⟩))) (mag (k0_pay1 g u s c (ix2 r ⟨128 + l.val, by omega⟩))))
          (mag (k0_pay1 g u s c (ix2 r ⟨256 + l.val, by omega⟩)))) (mag (k0_pay1 g u s c (ix2 r ⟨384 + l.val, by omega⟩))) := by
  pointwise [k0_pay4, k0_pay3]
  rfl

theorem high_apply (a : Vec Ideal S384x128 .f32) (i : S384x128.Idx) : k0_pay9 a i = Quant.high (k0_pay8 a i) := by
  unfold k0_pay9 Quant.high
  refine (Quant.step_apply (k0_pay8 a) _ _ i).trans (congrArg _ ?_)
  refine (Quant.step_apply (k0_pay8 a) _ _ i).trans (congrArg _ ?_)
  refine (Quant.step_apply (k0_pay8 a) _ _ i).trans (congrArg _ ?_)
  refine (Quant.step_apply (k0_pay8 a) _ _ i).trans (congrArg _ ?_)
  exact Quant.step_apply (k0_pay8 a) _ _ i

theorem expo_apply (a : Vec Ideal S384x128 .f32) (i : S384x128.Idx) :
    k0_pay11 (k0_pay8 a) (k0_pay9 a) k0_pay10 i = Quant.expo (k0_pay8 a i) := by
  unfold Quant.expo Quant.biased
  rw [← high_apply]
  unfold k0_pay11 k0_pay10
  generalize k0_pay8 a = X
  generalize k0_pay9 a = Y
  rfl

theorem level_apply (a : Vec Ideal S384x128 .f32) (r : Fin 384) (l : Fin 128) :
    k0_pay8 a (ix2 r l) = level fun x => a (ix2 r x) := by
  pointwise [k0_pay8]
  rfl

theorem scale_apply (a : Vec Ideal S384x128 .f32) (z : Fin 1) (r : Fin 384) :
    scaleRow a (ix2 z r) = Quant.scale (level fun x => a (ix2 r x)) := by
  unfold scaleRow
  pointwise [k0_pay12]
  rw [expo_apply, level_apply]
  rfl

theorem codes_apply (a : Vec Ideal S384x128 .f32) (T : Vec Ideal S1x384x512 .f32) (z : Fin 1) (r : Fin 384) (k : Fin 512) :
    codes a T (ix3 z r k) = clip (T (ix3 0 r k) * Quant.inverse (level fun x => a (ix2 r x))) := by
  unfold codes
  pointwise [k0_pay14, k0_pay13]
  simp only [dite_eq_ite, ite_self, expo_apply, level_apply]
  rfl

end Kernel

end Cert.UpEq

end
-- ==== Proof.UpTileAt.lean ====
/-
  The up projection: the block of `m` that the kernel computes at a grid point, in terms of the argument arrays.
-/
module

public import proofs.«01_k».proof.Proof.UpBlock
public import proofs.«01_k».proof.Proof.UpIdealRun
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdeal.Result

open Cert.UpIdeal Cert.UpIdeal.Gen Cert.UpIdeal.Run Cert.UpEq Cert.Quant

variable (m : (ℓ : Loc nD τ sig) → Buf (Elt Ideal) ℓ)

theorem idx : ∀ t : Fin cfg0.N, win0_0.index t = ![t.val / 11, 0, 0] ∧ win0_1.index t = ![0, 0]
    ∧ win0_2.index t = ![0, t.val % 11, 0] ∧ win0_3.index t = ![0, 0, t.val % 11] ∧ win0_4.index t = ![0, t.val % 11]
    ∧ win0_5.index t = ![0, t.val % 11]
    ∧ win0_6.index t = ![t.val / 11, 0, 0] ∧ win0_7.index t = ![0, 0] ∧ k0_off1 (grid0.coords t) = ![t.val / 11, 0] :=
  (by decide +kernel)

/-- The argument arrays' `m`. -/
abbrev mOf (c : Dev nD) (b : Fin 5) (r : Fin 384) (k : Fin 5632) : EReal :=
  mAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b r k

/-- The block of `m` at a grid point holds the 512 columns of its batch row that start at 512 times the point's second coordinate. -/
theorem tile_at (c : Dev nD) (t : Fin cfg0.N) (b : Fin 5) (hb : b.val = t.val / 11) (z : Fin 1) (r : Fin 384) (k : Fin 512) (k' : Fin 5632)
    (hk : k'.val = 512 * (t.val % 11) + k.val) :
    tileAt m c t (ix3 z r k) = mOf m c b r k' := by
  unfold tileAt tile
  rw [kernel_tile]
  unfold mOf mAt
  refine entry_congr (fun x => ?_) ?_ (fun x => ?_) (fun x => ?_) ?_ ?_ ?_ ?_
  · blk_simp [iblk, V, idx t]
    refine congrArg (m ((c : Thread nD τ).loc main_arg0)) (funext fun a => Fin.ext ?_)
    match a with
    | ⟨0, _⟩ => blk_simp [idx t]; try omega
    | ⟨1, _⟩ => blk_simp [idx t]; try omega
    | ⟨2, _⟩ => blk_simp [idx t]; try omega
  · refine (View.ld_unit_apply_of (S := S5x384) _ _ _ _ _ (ix2 b r) fun a => ?_).trans ?_
    · have e := congrFun (idx t).2.2.2.2.2.2.2.2 a
      match a with
      | ⟨0, _⟩ => exact hb.trans ((congrArg (· + 0) e).trans rfl).symm
      | ⟨1, _⟩ => exact ((congrArg (· + r.val) e).trans (Nat.zero_add _)).symm
    · blk_ext [iblk, V, idx t]
  · refine (View.ld_unit_apply_of _ _ _ _ _ (ix3 (0 : Fin 2) k x) fun a => ?_).trans ?_
    · match a with
      | ⟨0, _⟩ => exact (Nat.zero_add _).symm
      | ⟨1, _⟩ => exact (Nat.zero_add _).symm
      | ⟨2, _⟩ => exact (Nat.zero_add _).symm
    · blk_simp [iblk, V, idx t]
      refine congrArg (m ((c : Thread nD τ).loc main_arg2)) (funext fun a => Fin.ext ?_)
      match a with
      | ⟨0, _⟩ => blk_simp [idx t]; try omega
      | ⟨1, _⟩ => blk_simp [idx t]; try omega
      | ⟨2, _⟩ => blk_simp [idx t]; try omega
  · refine (View.ld_unit_apply_of _ _ _ _ _ (ix3 (1 : Fin 2) k x) fun a => ?_).trans ?_
    · match a with
      | ⟨0, _⟩ => exact rfl
      | ⟨1, _⟩ => exact (Nat.zero_add _).symm
      | ⟨2, _⟩ => exact (Nat.zero_add _).symm
    · blk_simp [iblk, V, idx t]
      refine congrArg (m ((c : Thread nD τ).loc main_arg2)) (funext fun a => Fin.ext ?_)
      match a with
      | ⟨0, _⟩ => blk_simp [idx t]; try omega
      | ⟨1, _⟩ => blk_simp [idx t]; try omega
      | ⟨2, _⟩ => blk_simp [idx t]; try omega
  · refine (View.ld_unit_apply_of _ _ _ _ _ (ix3 (0 : Fin 2) (0 : Fin 1) k) fun a => ?_).trans ?_
    · match a with
      | ⟨0, _⟩ => exact (Nat.zero_add _).symm
      | ⟨1, _⟩ => exact (Nat.zero_add _).symm
      | ⟨2, _⟩ => exact (Nat.zero_add _).symm
    · blk_simp [iblk, idx t]; unfold V; entry_read; pointwise
      refine congrArg (m ((c : Thread nD τ).loc main_arg3)) (funext fun a => Fin.ext ?_)
      match a with
      | ⟨0, _⟩ => blk_simp [idx t]; try omega
      | ⟨1, _⟩ => blk_simp [idx t]; try omega
  · refine (View.ld_unit_apply_of _ _ _ _ _ (ix3 (1 : Fin 2) (0 : Fin 1) k) fun a => ?_).trans ?_
    · match a with
      | ⟨0, _⟩ => exact rfl
      | ⟨1, _⟩ => exact (Nat.zero_add _).symm
      | ⟨2, _⟩ => exact (Nat.zero_add _).symm
    · blk_simp [iblk, idx t]; unfold V; entry_read; pointwise
      refine congrArg (m ((c : Thread nD τ).loc main_arg3)) (funext fun a => Fin.ext ?_)
      match a with
      | ⟨0, _⟩ => blk_simp [idx t]; try omega
      | ⟨1, _⟩ => blk_simp [idx t]; try omega
  · blk_simp [iblk, idx t]; unfold V; entry_read; pointwise
    refine congrArg (m ((c : Thread nD τ).loc main_arg4)) (funext fun a => Fin.ext ?_)
    match a with
    | ⟨0, _⟩ => blk_simp [idx t]; try omega
  · blk_simp [iblk, idx t]; unfold V; entry_read; pointwise
    refine congrArg (m ((c : Thread nD τ).loc main_arg5)) (funext fun a => Fin.ext ?_)
    match a with
    | ⟨0, _⟩ => blk_simp [idx t]; try omega

end Cert.UpIdeal.Result

end
-- ==== Proof.Level.lean ====
/-
  A row's largest magnitude: taken over all entries at once, or first over the entries of each lane and then over the lanes.
-/
module

public import proofs.«01_k».proof.Proof.Quant

@[expose] public section

noncomputable section

open Idealize.ShloMosaic

namespace Cert.Quant

theorem mag_nonneg (x : EReal) : 0 ≤ mag x := by
  rw [mag_eq]
  rcases le_total 0 x with h | h
  · exact le_max_of_le_left h
  · exact le_max_of_le_right (EReal.neg_nonneg.mpr h)

theorem ofBits_inv448 : 0 ≤ Ideal.ofBits .f32 991054117#32 := by
  rw [ofBits_ieee]
  unfold Ideal.ieee
  have f : ((991054117#32).extractLsb' (8 + 23) 1 == 1#1) = false ∧ ((991054117#32).extractLsb' 23 8).toNat = 118 := by decide
  simp only [f.1, f.2]
  norm_num

/-- A row's level is not negative. -/
theorem level_nonneg {n : ℕ} (v : Fin n → EReal) (i : Fin n) : 0 ≤ level fun k => mag (v k) :=
  mul_nonneg (Finset.le_fold_max _ |>.mpr (Or.inr ⟨i, Finset.mem_univ i, mag_nonneg _⟩)) ofBits_inv448

/-- Two rows of which the same numbers are upper bounds have one level. -/
theorem level_congr {n n' : ℕ} (v : Fin n → EReal) (v' : Fin n' → EReal) (h : ∀ y, (∀ i, v i ≤ y) ↔ ∀ i, v' i ≤ y) :
    level v = level v' := by
  refine congrArg (· * Ideal.ofBits .f32 991054117#32) (eq_of_forall_ge_iff fun y => ?_)
  rw [Finset.fold_max_le, Finset.fold_max_le]
  simp only [Finset.mem_univ, true_imp_iff, h]

end Cert.Quant

end
-- ==== Proof.UpKernelValue.lean ====
/-
  The up projection: the lanes' running maxima, and what the kernel's two result arrays hold after its run.
-/
module

public import proofs.«01_k».proof.Proof.UpTileAt
public import proofs.«01_k».proof.Proof.Level
public import Idealize.ShloMosaic.Lib.Pipeline.ArrRel
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdeal.Result

open Cert.UpIdeal Cert.UpIdeal.Gen Cert.UpIdeal.Run Cert.UpEq Cert.Quant

theorem tile_apply (g u : FVec Ideal S384x512 .f32) (s : FVec Ideal S1x512 .f32) (c : EReal) (r : Fin 384) (k : Fin 512) :
    k0_pay2 g u s c (ix3 0 r k) = k0_pay1 g u s c (ix2 r k) := by
  unfold k0_pay2
  generalize k0_pay1 g u s c = X
  pointwise

theorem over_apply (g u : FVec Ideal S384x512 .f32) (s : FVec Ideal S1x512 .f32) (c : EReal) (a : Vec Ideal S384x128 .f32) (i : S384x128.Idx) :
    k0_pay5 g u s c a i = max (a i) (k0_pay4 g u s c i) := by
  unfold k0_pay5 k0_pay4
  pointwise
/-- The four entries of a block in one lane. -/
theorem lanes_le (f : Fin 512 → EReal) (l : Fin 128) (y : EReal) :
    max (max (max (f ⟨l.val, by omega⟩) (f ⟨128 + l.val, by omega⟩)) (f ⟨256 + l.val, by omega⟩)) (f ⟨384 + l.val, by omega⟩) ≤ y
      ↔ ∀ k : Fin 512, k.val % 128 = l.val → f k ≤ y := by
  have hl := l.isLt
  simp only [max_le_iff]
  constructor
  · rintro ⟨⟨⟨h0, h1⟩, h2⟩, h3⟩ k hk
    have hk' := k.isLt
    rcases (by omega : k.val = l.val ∨ k.val = 128 + l.val ∨ k.val = 256 + l.val ∨ k.val = 384 + l.val) with e | e | e | e
    · rwa [show k = ⟨l.val, by omega⟩ from Fin.ext e]
    · rwa [show k = ⟨128 + l.val, by omega⟩ from Fin.ext e]
    · rwa [show k = ⟨256 + l.val, by omega⟩ from Fin.ext e]
    · rwa [show k = ⟨384 + l.val, by omega⟩ from Fin.ext e]
  · intro h
    exact ⟨⟨⟨h _ (by show l.val % 128 = _; omega), h _ (by show (128 + l.val) % 128 = _; omega)⟩, h _ (by show (256 + l.val) % 128 = _; omega)⟩,
      h _ (by show (384 + l.val) % 128 = _; omega)⟩

theorem block_le (g u : FVec Ideal S384x512 .f32) (s : FVec Ideal S1x512 .f32) (c : EReal) (r : Fin 384) (l : Fin 128) (y : EReal) :
    k0_pay4 g u s c (ix2 r l) ≤ y ↔ ∀ k : Fin 512, k.val % 128 = l.val → mag (k0_pay2 g u s c (ix3 0 r k)) ≤ y := by
  rw [kernel_part]
  refine (lanes_le (fun k => mag (k0_pay1 g u s c (ix2 r k))) l y).trans ?_
  exact forall_congr' fun k => imp_congr_right fun _ => by rw [tile_apply]

variable (m : (ℓ : Loc nD τ sig) → Buf (Elt Ideal) ℓ)

/-- The upper bounds of a block's lane maxima are those of the block's entries in that lane. -/
theorem part_le (c : Dev nD) (t : Fin cfg0.N) (r : Fin 384) (l : Fin 128) (y : EReal) :
    part (grid0.coords t) (iblk m c 0 t) (iblk m c 1 t) (iblk m c 2 t) (iblk m c 3 t) (iblk m c 4 t) (iblk m c 5 t) (ix2 r l) ≤ y
      ↔ ∀ k : Fin 512, k.val % 128 = l.val → mag (tileAt m c t (ix3 0 r k)) ≤ y := by
  unfold part tileAt tile
  exact block_le _ _ _ _ r l y

/-- The upper bounds of the running maxima are those of the entries so far in that lane. -/
theorem amax_le (c : Dev nD) (b : Fin 5) (r : Fin 384) (l : Fin 128) (y : EReal) (n : ℕ) (hn : n < 11) (t : Fin cfg0.N) (ht : t.val = 11 * b.val + n) :
    amaxAt m c t.val t.isLt (ix2 r l) ≤ y ↔ ∀ k : Fin 5632, k.val < 512 * (n + 1) → k.val % 128 = l.val → mag (mOf m c b r k) ≤ y := by
  have hp (t : Fin cfg0.N) (n : ℕ) (hn : n < 11) (ht : t.val = 11 * b.val + n) :
      (∀ k : Fin 512, k.val % 128 = l.val → mag (tileAt m c t (ix3 0 r k)) ≤ y)
        ↔ ∀ k : Fin 5632, 512 * n ≤ k.val → k.val < 512 * (n + 1) → k.val % 128 = l.val → mag (mOf m c b r k) ≤ y := by
    constructor
    · intro h k h1 h2 h3
      have e := h ⟨k.val - 512 * n, by omega⟩ (by show (k.val - 512 * n) % 128 = _; omega)
      rwa [tile_at m c t b (by omega) 0 r _ k (by show k.val = 512 * (t.val % 11) + (k.val - 512 * n); omega)] at e
    · intro h k hk
      have hl := k.isLt
      rw [tile_at m c t b (by omega) 0 r k ⟨512 * n + k.val, by omega⟩ (by show 512 * n + k.val = 512 * (t.val % 11) + k.val; omega)]
      exact h _ (by show 512 * n ≤ 512 * n + k.val; omega) (by show 512 * n + k.val < _; omega) (by show (512 * n + k.val) % 128 = _; omega)
  induction n generalizing t with
  | zero =>
    rw [amaxAt_first m c t (by omega), part_le, hp t 0 hn ht]
    exact ⟨fun h k h1 h2 => h k (by omega) h1 h2, fun h k _ h1 h2 => h k h1 h2⟩
  | succ n ih =>
    have ht' : t.val - 1 < cfg0.N := Nat.lt_of_le_of_lt (Nat.sub_le _ _) t.isLt
    rw [amaxAt_next m c t (by omega)]
    unfold partOver
    rw [over_apply, max_le_iff]
    have i1 := ih (by omega) ⟨t.val - 1, ht'⟩ (by show t.val - 1 = _; omega)
    have i2 := (part_le m c t r l y).trans (hp t (n + 1) hn ht)
    unfold part at i2
    rw [i2]
    refine (and_congr_left' i1).trans ?_
    constructor
    · rintro ⟨h1, h2⟩ k hk hl
      by_cases h : k.val < 512 * (n + 1)
      · exact h1 k h hl
      · exact h2 k (by omega) hk hl
    · exact fun h => ⟨fun k hk hl => h k (by omega) hl, fun k _ hk hl => h k hk hl⟩

/-- After a batch row's last block the level of the lanes' maxima is the level of the row's entries. -/
theorem level_at (c : Dev nD) (t : Fin cfg0.N) (b : Fin 5) (ht : t.val = 11 * b.val + 10) (r : Fin 384) :
    (level fun l => amaxAt m c t.val t.isLt (ix2 r l)) = level fun k => mag (mOf m c b r k) := by
  refine level_congr _ _ fun y => ⟨fun h k => ?_, fun h l => ?_⟩
  · exact (amax_le m c b r ⟨k.val % 128, Nat.mod_lt _ (by decide)⟩ y 10 (by omega) t ht).mp (h _) k (by have := k.isLt; omega) rfl
  · exact (amax_le m c b r l y 10 (by omega) t ht).mpr fun k _ _ => h k

/-- A batch row's codes. -/
theorem codes_at (c : Dev nD) (t : Fin cfg0.N) (b : Fin 5) (ht : t.val = 11 * b.val + 10) (z : Fin 1) (r : Fin 384) (k : Fin 5632) :
    codesAt m c t (ix3 z r k) = clip (mOf m c b r k * inverseRef (level fun k => mag (mOf m c b r k))) := by
  unfold codesAt allCodes
  have hk := k.isLt
  refine (codes_apply _ _ _ _ _).trans ?_
  refine congrArg clip (congrArg₂ (· * ·) ?_ ?_)
  · exact tile_at m c _ b (by show b.val = (11 * (t.val / 11) + k.val / 512) / 11; omega) 0 r _ k
      (by show k.val = 512 * ((11 * (t.val / 11) + k.val / 512) % 11) + k.val % 512; omega)
  · refine (congrArg inverse (level_at m c t b ht r)).trans (inverse_eq _ (level_nonneg _ ⟨0, by decide⟩))

/-- A batch row's scales. -/
theorem scale_at (c : Dev nD) (t : Fin cfg0.N) (b : Fin 5) (ht : t.val = 11 * b.val + 10) (r : Fin 384) :
    scaleRow (amaxAt m c t.val t.isLt) (ix2 0 r) = scaleRef (level fun k => mag (mOf m c b r k)) := by
  rw [scale_apply, level_at m c t b ht r]
  exact scale_eq _ (level_nonneg _ ⟨0, by decide⟩)

/-- What the run leaves in the two result arrays. -/
theorem results (ρ : Dev nD → PrngReg) : θ_run defs (onTc (τ := τ) (main (F := Ideal))) ⟨m, fun _ => 0, ρ⟩ (fun r => ∀ c : Dev nD,
      r.2.mem ((c.tc : Thread nD τ).loc main_v3_0)
        = codesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v3_1)
        = scalesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ⟨?_, ?_,
      (Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c)⟩)
    (run_main m ρ)
  · obtain ⟨after, hl, ha⟩ := Pipeline.RDat.FramePost.exists_exact hr.1 c
    refine (ha 6).trans (((rdat m c).withAfter after).arrAt_eq_of_covers 6 _ (by decide +kernel) fun t hf y => ?_)
    have hw : after 6 t = codesAt m c t := (dats m 0 c).toRRel_leaves (w := 6) rfl (hl 6 t hf) ((flush0_6 t).mp hf)
    have hb : ((rdat m c).withAfter after).after 6 t = codesAt m c t := hw
    blk_simp
    rw [hb]
    idx_vars y
    have h10 := (flush0_6 t).mp hf
    have hN : t.val < 55 := lt_of_lt_of_eq t.isLt N_0
    have e : ((View.whole main_v3_0).slice (win0_6.rect t)).emb (ix3 y0 y1 y2) = ix3 (⟨t.val / 11, by omega⟩ : Fin 5) y1 y2 := funext fun a => Fin.ext (by
      match a with
      | ⟨0, _⟩ => blk_simp [idx t]
      | ⟨1, _⟩ => blk_simp [idx t]
      | ⟨2, _⟩ => blk_simp [idx t])
    rw [e]
    exact codes_at m c t ⟨t.val / 11, by omega⟩ (by show t.val = 11 * (t.val / 11) + 10; omega) y0 y1 y2
  · obtain ⟨after, hl, ha⟩ := Pipeline.RDat.FramePost.exists_exact hr.1 c
    refine (ha 7).trans (((rdat m c).withAfter after).arrAt_eq_of_covers 7 _ (by decide +kernel) fun t hf y => ?_)
    have hw : Rows m c t.val (after 7 t) := (dats m 0 c).toRRel_leaves (w := 7) rfl (hl 7 t hf)
    blk_simp
    idx_vars y
    have h54 : t.val % 55 = 54 := (flush0_7 t).mp hf
    have hN : t.val < 55 := lt_of_lt_of_eq t.isLt N_0
    have e : ((View.whole main_v3_1).slice (win0_7.rect t)).emb (ix2 y0 y1) = ix2 y0 y1 := funext fun a => Fin.ext (by
      match a with
      | ⟨0, _⟩ => blk_simp [idx t]
      | ⟨1, _⟩ => blk_simp [idx t])
    rw [e]
    have hy := y0.isLt
    have hu : 11 * y0.val + 10 < cfg0.N := lt_of_lt_of_eq (by omega : 11 * y0.val + 10 < 55) N_0.symm
    exact (hw ⟨11 * y0.val + 10, hu⟩ (by show 11 * y0.val + 10 ≤ _; omega) (by show (11 * y0.val + 10) % 11 = 10; omega) y0
      (by show y0.val = (11 * y0.val + 10) / 11; omega) y1).trans (scale_at m c ⟨11 * y0.val + 10, hu⟩ y0 rfl y1)

end Cert.UpIdeal.Result

end
-- ==== Proof.QuantVec.lean ====
/-
  The reference's quantiser, read at an index of an array: its exponent, its scale and the scale's reciprocal.
-/
module

public import proofs.«01_k».proof.Proof.Quant
public import Idealize.ShloMosaic.Lib.Pointwise

@[expose] public section

noncomputable section

open Idealize.ShloMosaic

namespace Cert.Quant

variable {S : Shape}

/-- The scale from its exponent. -/
def scaleOf (e : EReal) : EReal :=
  if Ideal.ofBits .f32 1123942400#32 < e then Ideal.ofBits .f32 2139095040#32
  else FloatOps.exp2 (F := Ideal) (φ := .f32) e

/-- The scale's reciprocal from its exponent. -/
def inverseOf (e : EReal) : EReal :=
  if Ideal.ofBits .f32 1123942400#32 < e then Ideal.ofBits .f32 4286578688#32
  else if Ideal.ofBits .f32 1123811328#32 < e then 0
  else FloatOps.exp2 (F := Ideal) (φ := .f32) (0 - e)

theorem scaleOf_expo (x : EReal) : scaleOf (expoRef x) = scaleRef x := rfl

theorem inverseOf_expo (x : EReal) : inverseOf (expoRef x) = inverseRef x := rfl

theorem select_if {α : Type} (p : Prop) [Decidable p] (a b : α) :
    Scalar.select (BitVec.ofBool (decide p)) a b = if p then a else b := by
  by_cases h : p
  · rw [if_pos h, select_true p a b h]
  · rw [if_neg h, select_false p a b h]

theorem expo_raw (X : FVec Ideal S .f32) (c1 ci c2 one cm zero : Ideal .f32) (i : S.Idx) :
    select (ori (cmpf .olt X (broadcast S c1)) (cmpf .oeq X (broadcast S ci))) (broadcast S zero)
        (minimumf (addf (floor (divf (log X) (log (broadcast S c2)))) (broadcast S one)) (broadcast S cm)) i
      = Scalar.select (IntOp.ori (BitVec.ofBool (decide ((X i : EReal) < c1))) (BitVec.ofBool (decide ((X i : EReal) = ci)))) zero
          (min (Ideal.liftRound Int.floor (Ideal.div (Ideal.log (X i)) (Ideal.log c2)) + one) cm) := rfl

theorem expo_vec (X : FVec Ideal S .f32) (i : S.Idx) :
    select (ori (cmpf .olt X (broadcast S (Scalar.ofBits .f32 0x00800000#32))) (cmpf .oeq X (broadcast S (Scalar.ofBits .f32 0x7F800000#32))))
        (broadcast S (Scalar.ofBits .f32 0x00000000#32))
        (minimumf (addf (floor (divf (log X) (log (broadcast S (Scalar.ofBits .f32 0x40000000#32))))) (broadcast S (Scalar.ofBits .f32 0x3F800000#32)))
          (broadcast S (Scalar.ofBits .f32 0x43000000#32))) i
      = expoRef (X i) := by
  refine (expo_raw X _ _ _ _ _ _ i).trans ?_
  unfold expoRef
  simp only [Ideal.ofBits_def, Ideal.ofBits_zero_f32, Ideal.ofBits_one_f32]

theorem scale_raw (E : FVec Ideal S .f32) (c d : Ideal .f32) (i : S.Idx) :
    select (cmpf .ogt E (broadcast S c)) (broadcast S d) (exp2 E) i
      = Scalar.select (BitVec.ofBool (decide ((c : EReal) < E i))) d (FloatOps.exp2 (F := Ideal) (φ := .f32) (E i)) := rfl

theorem scale_vec (E : FVec Ideal S .f32) (i : S.Idx) :
    select (cmpf .ogt E (broadcast S (Scalar.ofBits .f32 0x42FE0000#32))) (broadcast S (Scalar.ofBits .f32 0x7F800000#32)) (exp2 E) i
      = scaleOf (E i) := by
  refine (scale_raw E _ _ i).trans ((select_if _ _ _).trans ?_)
  unfold scaleOf
  simp only [Ideal.ofBits_def]

theorem inverse_raw (E : FVec Ideal S .f32) (c d c' z z' : Ideal .f32) (i : S.Idx) :
    select (cmpf .ogt E (broadcast S c)) (broadcast S d)
        (select (cmpf .ogt E (broadcast S c')) (broadcast S z) (exp2 (subf (broadcast S z') E))) i
      = Scalar.select (BitVec.ofBool (decide ((c : EReal) < E i))) d
          (Scalar.select (BitVec.ofBool (decide ((c' : EReal) < E i))) z
            (FloatOps.exp2 (F := Ideal) (φ := .f32) ((z' : EReal) - E i))) := rfl

theorem inverse_vec (E : FVec Ideal S .f32) (i : S.Idx) :
    select (cmpf .ogt E (broadcast S (Scalar.ofBits .f32 0x42FE0000#32))) (broadcast S (Scalar.ofBits .f32 0xFF800000#32))
        (select (cmpf .ogt E (broadcast S (Scalar.ofBits .f32 0x42FC0000#32))) (broadcast S (Scalar.ofBits .f32 0x00000000#32))
          (exp2 (subf (broadcast S (Scalar.ofBits .f32 0x00000000#32)) E))) i
      = inverseOf (E i) := by
  refine (inverse_raw E _ _ _ _ _ i).trans ((select_if _ _ _).trans ?_)
  rw [select_if]
  unfold inverseOf
  simp only [Ideal.ofBits_def, Ideal.ofBits_zero_f32]

/-- The largest entry along the last of three axes. -/
theorem max_last {n0 n1 n2 : ℕ} (X : FVec Ideal (⟨3, ![n0, n1, n2]⟩ : Shape) .f32)
    (h : (⟨3, ![n0, n1, n2]⟩ : Shape).Reduces [2] (⟨2, ![n0, n1]⟩ : Shape)) (hφ : FKind.Formats .f32)
    (hacc : (0xFF800000#32 : BitVec 32) = FKind.maximumf.neutral .f32 hφ) (b : Fin n0) (r : Fin n1) :
    multiReduction .maximumf [2] (⟨2, ![n0, n1]⟩ : Shape) X 0xFF800000#32 h hφ hacc (ix2 b r)
      = Finset.univ.fold max (Ideal.ofBits .f32 0xFF800000#32) fun k : Fin n2 => X (ix3 b r k) := by
  refine (Ideal.multiReduction_maximumf_single X _ h hφ hacc _).trans ?_
  refine congrArg (Finset.fold max _ · Finset.univ) (funext fun k => congrArg X (funext fun a => ?_))
  match a with
  | ⟨0, _⟩ => rfl
  | ⟨1, _⟩ => rfl
  | ⟨2, _⟩ => rfl

end Cert.Quant

end
-- ==== Proof.UpRefBlock.lean ====
/-
  The up projection: what the reference computes at an index.
-/
module

public import proofs.«01_k».proof.Proof.Gen.UpRefIdeal.Frame
public import proofs.«01_k».proof.Proof.UpSpec
public import proofs.«01_k».proof.Proof.QuantVec
public import Idealize.ShloMosaic.Lib.Pointwise

@[expose] public section

set_option maxRecDepth 16384

noncomputable section

open Idealize.ShloMosaic

namespace Cert.UpEq

open Cert.Quant

section Reference

open Cert.UpRefIdeal Cert.UpRefIdeal.Gen

variable (v0 : Vec Ideal S5x384x2048 .fp8e4m3) (v2 : Vec Ideal S1x5632 .f32) (v5 : Vec Ideal S1x5632x2048 .fp8e4m3)
  (v9 : Vec Ideal S5x384 .f32) (v13 : Vec Ideal S1x5632 .f32) (v19 : Vec Ideal S1x5632 .f32)
  (v24 : Vec Ideal S1x5632x2048 .fp8e4m3) (v32 : Vec Ideal S1x5632 .f32)

/-- The reference's array `m`. -/
theorem ref_entry (b : Fin 5) (r : Fin 384) (k : Fin 5632) :
    k0_pay7 (k0_pay4 v0 v2 v5 v9 v13) (k0_pay5 v19) (k0_pay6 v0 v24 v9 v32) (ix3 b r k)
      = entry (fun x => v0 (ix3 b r x)) (v9 (ix2 b r)) (fun x => v5 (ix3 0 k x)) (fun x => v24 (ix3 0 k x))
          (v13 (ix2 0 k)) (v32 (ix2 0 k)) (v2 (ix2 0 k)) (v19 (ix2 0 k)) := by
  pointwise [k0_pay7, k0_pay6, k0_pay5, k0_pay4, k0_pay3]
  rfl

variable (u : FVec Ideal S5x384x5632 .f32) (s : FVec Ideal S1x1x5632 .f32) (g : FVec Ideal S5x384x5632 .f32)

theorem ref_level (M : FVec Ideal S5x384x5632 .f32) (b : Fin 5) (r : Fin 384) (z : Fin 1) :
    mulf (shapeCast S5x384x1 (multiReduction .maximumf [2] S5x384 (absf M) 0xFF800000#32 reduces_S5x384x5632_S5x384 (.inl rfl) rfl)
        shapeCasts_S5x384_S5x384x1) (broadcast S5x384x1 (Scalar.ofBits .f32 0x3B124925#32)) (ix3 b r z)
      = level fun k => mag (M (ix3 b r k)) := by
  have h (X : FVec Ideal S5x384 .f32) (x : EReal) (hX : X (ix2 b r) = x) :
      mulf (shapeCast S5x384x1 X shapeCasts_S5x384_S5x384x1) (broadcast S5x384x1 (Scalar.ofBits .f32 0x3B124925#32)) (ix3 b r z)
        = x * Ideal.ofBits .f32 991054117#32 := by
    subst hX
    pointwise
  exact h _ _ (max_last (absf M) _ _ _ b r)

theorem ref_expo (b : Fin 5) (r : Fin 384) (z : Fin 1) :
    k0_pay8 u s g (ix3 b r z) = expoRef (level fun k => mag (k0_pay7 u s g (ix3 b r k))) := by
  unfold k0_pay8
  generalize k0_pay7 u s g = M
  exact (expo_vec _ _).trans (congrArg expoRef (ref_level M b r z))

theorem ref_scale (b : Fin 5) (r : Fin 384) :
    k0_pay2 (k0_pay9 u s g) (ix2 b r) = scaleRef (level fun k => mag (k0_pay7 u s g (ix3 b r k))) := by
  rw [← scaleOf_expo, ← ref_expo u s g b r 0]
  unfold k0_pay9
  generalize k0_pay8 u s g = E
  have h (X : FVec Ideal S5x384x1 .f32) : k0_pay2 X (ix2 b r) = X (ix3 b r 0) := by
    pointwise [k0_pay2]
  exact (h _).trans (scale_vec _ _)

theorem ref_code (b : Fin 5) (r : Fin 384) (k : Fin 5632) :
    k0_pay1 (k0_pay10 u s g) (Scalar.ofBits .f32 0xC3E00000#32) (ix3 b r k)
      = clip (k0_pay7 u s g (ix3 b r k) * inverseRef (level fun k => mag (k0_pay7 u s g (ix3 b r k)))) := by
  rw [← inverseOf_expo, ← ref_expo u s g b r 0]
  unfold k0_pay10
  generalize k0_pay8 u s g = E
  generalize k0_pay7 u s g = M
  have h (X : FVec Ideal S5x384x1 .f32) (e : EReal) (hX : X (ix3 b r 0) = e) :
      k0_pay1 (mulf M (broadcastTo S5x384x5632 X broadcasts_S5x384x1_S5x384x5632)) (Scalar.ofBits .f32 0xC3E00000#32) (ix3 b r k)
        = clip (M (ix3 b r k) * e) := by
    subst hX
    pointwise [k0_pay1]
    unfold clip
    with_reducible rfl
  exact h _ _ (inverse_vec _ _)

end Reference

end Cert.UpEq

end
-- ==== Proof.UpRefValue.lean ====
/-
  The up projection: what the reference's two result arrays hold after its run.
-/
module

public import proofs.«01_k».proof.Proof.UpRefBlock
public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpRefIdeal.Result

open Cert.UpRefIdeal Cert.UpRefIdeal.Gen Cert.UpEq Cert.Quant

section Blocks

variable (x0 : Vec Ideal S5x384x2048 .fp8e4m3) (x1 : Vec Ideal S5x384 .f32) (x2 : Vec Ideal S2x5632x2048 .fp8e4m3)
  (x3 : Vec Ideal S2x5632 .f32) (x4 x5 : Vec Ideal S1x5632 .f32)

/-- The array `m` from the arrays the body reads. -/
theorem entry_of (b : Fin 5) (r : Fin 384) (k : Fin 5632) :
    k0_pay7 (k0_pay11 x0 x1 x2 x3 x4 x5) (k0_pay12 x0 x1 x2 x3 x4 x5) (k0_pay13 x0 x1 x2 x3 x4 x5) (ix3 b r k)
      = entry (fun x => x0 (ix3 b r x)) (x1 (ix2 b r)) (fun x => x2 (ix3 0 k x)) (fun x => x2 (ix3 1 k x)) (x3 (ix2 0 k)) (x3 (ix2 1 k))
          (x4 (ix2 0 k)) (x5 (ix2 0 k)) := by
  unfold k0_pay11 k0_pay12 k0_pay13
  rw [ref_entry]
  refine entry_congr (fun x => ?_) ?_ (fun x => ?_) (fun x => ?_) ?_ ?_ ?_ ?_
  · refine View.ld_unit_apply_of _ _ _ _ _ (ix3 b r x) fun a => ?_
    match a with
    | ⟨0, _⟩ => exact (Nat.zero_add _).symm
    | ⟨1, _⟩ => exact (Nat.zero_add _).symm
    | ⟨2, _⟩ => exact (Nat.zero_add _).symm
  · refine View.ld_unit_apply_of _ _ _ _ _ (ix2 b r) fun a => ?_
    match a with
    | ⟨0, _⟩ => exact (Nat.zero_add _).symm
    | ⟨1, _⟩ => exact (Nat.zero_add _).symm
  · refine View.ld_unit_apply_of _ _ _ _ _ (ix3 (0 : Fin 2) k x) fun a => ?_
    match a with
    | ⟨0, _⟩ => exact (Nat.zero_add _).symm
    | ⟨1, _⟩ => exact (Nat.zero_add _).symm
    | ⟨2, _⟩ => exact (Nat.zero_add _).symm
  · refine View.ld_unit_apply_of _ _ _ _ _ (ix3 (1 : Fin 2) k x) fun a => ?_
    match a with
    | ⟨0, _⟩ => rfl
    | ⟨1, _⟩ => exact (Nat.zero_add _).symm
    | ⟨2, _⟩ => exact (Nat.zero_add _).symm
  · refine View.ld_unit_apply_of _ _ _ _ _ (ix2 (0 : Fin 2) k) fun a => ?_
    match a with
    | ⟨0, _⟩ => exact (Nat.zero_add _).symm
    | ⟨1, _⟩ => exact (Nat.zero_add _).symm
  · refine View.ld_unit_apply_of _ _ _ _ _ (ix2 (1 : Fin 2) k) fun a => ?_
    match a with
    | ⟨0, _⟩ => rfl
    | ⟨1, _⟩ => exact (Nat.zero_add _).symm
  · refine View.ld_unit_apply_of _ _ _ _ _ (ix2 (0 : Fin 1) k) fun a => ?_
    match a with
    | ⟨0, _⟩ => exact (Nat.zero_add _).symm
    | ⟨1, _⟩ => exact (Nat.zero_add _).symm
  · refine View.ld_unit_apply_of _ _ _ _ _ (ix2 (0 : Fin 1) k) fun a => ?_
    match a with
    | ⟨0, _⟩ => exact (Nat.zero_add _).symm
    | ⟨1, _⟩ => exact (Nat.zero_add _).symm

/-- The codes the body stores. -/
theorem out_codes (b : Fin 5) (r : Fin 384) (k : Fin 5632) (e : Fin 5632 → EReal)
    (he : ∀ k, k0_pay7 (k0_pay11 x0 x1 x2 x3 x4 x5) (k0_pay12 x0 x1 x2 x3 x4 x5) (k0_pay13 x0 x1 x2 x3 x4 x5) (ix3 b r k) = e k) :
    out0_6 x0 x1 x2 x3 x4 x5 (ix3 b r k) = clip (e k * inverseRef (level fun k => mag (e k))) := by
  obtain rfl : (fun k => k0_pay7 (k0_pay11 x0 x1 x2 x3 x4 x5) (k0_pay12 x0 x1 x2 x3 x4 x5) (k0_pay13 x0 x1 x2 x3 x4 x5) (ix3 b r k)) = e := funext he
  unfold out0_6
  generalize k0_pay11 x0 x1 x2 x3 x4 x5 = u
  generalize k0_pay12 x0 x1 x2 x3 x4 x5 = s
  generalize k0_pay13 x0 x1 x2 x3 x4 x5 = g
  refine Eq.trans ?_ (ref_code u s g b r k)
  frame_out

/-- The scales the body stores. -/
theorem out_scales (b : Fin 5) (r : Fin 384) (e : Fin 5632 → EReal)
    (he : ∀ k, k0_pay7 (k0_pay11 x0 x1 x2 x3 x4 x5) (k0_pay12 x0 x1 x2 x3 x4 x5) (k0_pay13 x0 x1 x2 x3 x4 x5) (ix3 b r k) = e k) :
    out0_7 x0 x1 x2 x3 x4 x5 (ix2 b r) = scaleRef (level fun k => mag (e k)) := by
  obtain rfl : (fun k => k0_pay7 (k0_pay11 x0 x1 x2 x3 x4 x5) (k0_pay12 x0 x1 x2 x3 x4 x5) (k0_pay13 x0 x1 x2 x3 x4 x5) (ix3 b r k)) = e := funext he
  unfold out0_7
  generalize k0_pay11 x0 x1 x2 x3 x4 x5 = u
  generalize k0_pay12 x0 x1 x2 x3 x4 x5 = s
  generalize k0_pay13 x0 x1 x2 x3 x4 x5 = g
  refine Eq.trans ?_ (ref_scale u s g b r)
  frame_out

end Blocks

variable (m : (ℓ : Loc nD τ sig) → Buf (Elt Ideal) ℓ)

theorem idx : ∀ t : Fin cfg0.N, win0_0.index t = ![0, 0, 0] ∧ win0_1.index t = ![0, 0]
    ∧ win0_2.index t = ![0, 0, 0] ∧ win0_3.index t = ![0, 0] ∧ win0_4.index t = ![0, 0] ∧ win0_5.index t = ![0, 0]
    ∧ win0_6.index t = ![0, 0, 0] ∧ win0_7.index t = ![0, 0] :=
  (by decide +kernel)

/-- The argument arrays' `m`. -/
abbrev mOf (c : Dev nD) (b : Fin 5) (r : Fin 384) (k : Fin 5632) : EReal :=
  mAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b r k

theorem entry_at (c : Dev nD) (t : Fin cfg0.N) (b : Fin 5) (r : Fin 384) (k : Fin 5632) :
    k0_pay7 (k0_pay11 (iblk m c 0 t) (iblk m c 1 t) (iblk m c 2 t) (iblk m c 3 t) (iblk m c 4 t) (iblk m c 5 t))
        (k0_pay12 (iblk m c 0 t) (iblk m c 1 t) (iblk m c 2 t) (iblk m c 3 t) (iblk m c 4 t) (iblk m c 5 t))
        (k0_pay13 (iblk m c 0 t) (iblk m c 1 t) (iblk m c 2 t) (iblk m c 3 t) (iblk m c 4 t) (iblk m c 5 t)) (ix3 b r k) = mOf m c b r k := by
  rw [entry_of]
  unfold mOf mAt
  refine entry_congr (fun x => ?_) ?_ (fun x => ?_) (fun x => ?_) ?_ ?_ ?_ ?_
  · blk_ext [iblk, V, idx t]
  · blk_ext [iblk, V, idx t]
  · blk_ext [iblk, V, idx t]
  · blk_ext [iblk, V, idx t]
  · blk_ext [iblk, V, idx t]
  · blk_ext [iblk, V, idx t]
  · blk_simp [iblk, idx t]; unfold V; entry_read; pointwise; blk_ext [idx t]
  · blk_simp [iblk, idx t]; unfold V; entry_read; pointwise; blk_ext [idx t]

/-- The codes after the run. -/
theorem final_codes (c : Dev nD) : (dats m 0 c).arrAt 6 cfg0.N
    = codesOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  rw [out_codes _ _ _ _ _ _ _ _ _ _ (entry_at m c t _ _)]
  unfold codesOf levelAt
  have e : (win0_6.blk t).view.emb (ix3 y0 y1 y2) = ix3 y0 y1 y2 := funext fun a => Fin.ext (by
    match a with
    | ⟨0, _⟩ => blk_simp [idx t]
    | ⟨1, _⟩ => blk_simp [idx t]
    | ⟨2, _⟩ => blk_simp [idx t])
  rw [e]
  rfl

/-- The scales after the run. -/
theorem final_scales (c : Dev nD) : (dats m 0 c).arrAt 7 cfg0.N
    = scalesOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  rw [out_scales _ _ _ _ _ _ _ _ _ (entry_at m c t _ _)]
  unfold scalesOf levelAt
  have e : (win0_7.blk t).view.emb (ix2 y0 y1) = ix2 y0 y1 := funext fun a => Fin.ext (by
    match a with
    | ⟨0, _⟩ => blk_simp [idx t]
    | ⟨1, _⟩ => blk_simp [idx t])
  rw [e]
  rfl

end Cert.UpRefIdeal.Result

end
-- ==== Proof.UpValue.lean ====
/-
  The up projection: the kernel's two result arrays and the reference's are the same functions of the arguments.
-/
module

public import proofs.«01_k».proof.Proof.UpKernelValue
public import proofs.«01_k».proof.Proof.UpRefValue

@[expose] public section

noncomputable section

open Idealize.ShloMosaic Idealize.ShloMosaic.TcCoe Idealize.SL.Sem

namespace Cert.UpRefIdeal.Result

open Cert.UpRefIdeal Cert.UpRefIdeal.Gen Cert.UpEq

variable (m : (ℓ : Loc nD τ sig) → Buf (Elt Ideal) ℓ)

/-- What the reference's run leaves in its two result arrays. -/
theorem results (ρ : Dev nD → PrngReg) : θ_run defs (onTc (τ := τ) (main (F := Ideal))) ⟨m, fun _ => 0, ρ⟩ (fun r => ∀ c : Dev nD,
      r.2.mem ((c.tc : Thread nD τ).loc main_v2_0)
        = codesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v2_1)
        = scalesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_codes m c), ((h c).1 7).trans (final_scales m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.UpRefIdeal.Result

namespace Cert.UpEq

/-- From memories agreeing on the arguments the kernel and the reference end with the same codes and the same scales. -/
theorem algebraic : Cert.algebraic_UpIdeal_UpRefIdeal := by
  intro m ρ m' ρ' _ hagree
  refine ⟨_, _, Cert.UpIdeal.Result.results m ρ, (θ_run Cert.UpRefIdeal.defs _ _).mono
      (fun _ h c => ⟨(h c).1.trans ?_, (h c).2.1.trans ?_, (h c).2.2⟩) (Cert.UpRefIdeal.Result.results m' ρ')⟩
  · obtain ⟨h0, h1, h2, h3, h4, h5⟩ := hagree c
    rw [h0, h1, h2, h3, h4, h5]
  · obtain ⟨h0, h1, h2, h3, h4, h5⟩ := hagree c
    rw [h0, h1, h2, h3, h4, h5]

end Cert.UpEq

end
-- ==== Proof.ProjTile.lean ====
/-
  The output projection's body: its run, and what it stores in each of its three results.
-/
module

public import proofs.«01_k».proof.Proof.Gen.Proj.Skeleton
public import proofs.«01_k».proof.Proof.Gen.Proj.Frame
public import Idealize.ShloMosaic.Lib.Pipeline.ValueKit
public import Idealize.ShloMosaic.Lib.WritesUnit

@[expose] public section

set_option maxRecDepth 16384

noncomputable section

namespace Cert.Proj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

/-! ## The windows' buffers -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev ms0_0 (t : Fin cfg0.N) : Memref sig .tc .vmem S1x384x2048 .bf16 := win0_0.stage (cfg0.slots t 0)
abbrev ms0_1 (t : Fin cfg0.N) : Memref sig .tc .vmem S1x384x2048 .fp8e4m3 := win0_1.stage (cfg0.slots t 1)
abbrev ms0_2 (t : Fin cfg0.N) : Memref sig .tc .vmem S5x384 .f32 := win0_2.stage (cfg0.slots t 2)
abbrev ms0_3 (t : Fin cfg0.N) : Memref sig .tc .vmem S2048x2048 .fp8e4m3 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1x2048 .f32 := win0_5.stage (cfg0.slots t 5)
abbrev ms0_6 (t : Fin cfg0.N) : Memref sig .tc .vmem S1x384x2048 .f32 := win0_6.stage (cfg0.slots t 6)
abbrev ms0_7 (t : Fin cfg0.N) : Memref sig .tc .vmem S1x384x2048 .fp8e4m3 := win0_7.stage (cfg0.slots t 7)
abbrev ms0_8 (t : Fin cfg0.N) : Memref sig .tc .vmem S5x384 .f32 := win0_8.stage (cfg0.slots t 8)

/-! ## The run -/

set_option maxHeartbeats 4000000 in
/-- The body on whole memrefs with named contents: what it stores in each result's buffer, as pieces, with the proof that it
    runs and leaves the buffers with just those pieces written. -/
noncomputable def run (c : Dev nD) (i : grid0.Coords) (arg1 : Memref sig .tc .vmem S1x384x2048 .bf16) (harg1 : arg1.IsWhole) (arg2 : Memref sig .tc .vmem S1x384x2048 .fp8e4m3) (harg2 : arg2.IsWhole)
    (arg3 : Memref sig .tc .vmem S5x384 .f32) (harg3 : arg3.IsWhole) (arg4 : Memref sig .tc .vmem S2048x2048 .fp8e4m3) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x384x2048 .f32) (harg7 : arg7.IsWhole) (arg8 : Memref sig .tc .vmem S1x384x2048 .fp8e4m3) (harg8 : arg8.IsWhole)
    (arg9 : Memref sig .tc .vmem S5x384 .f32) (harg9 : arg9.IsWhole)
    (x0 : Vec F S1x384x2048 .bf16) (x1 : Vec F S1x384x2048 .fp8e4m3) (x2 : Vec F S5x384 .f32) (x3 : Vec F S2048x2048 .fp8e4m3) (x4 : Vec F S1x2048 .f32) (x5 : Vec F S1x2048 .f32) (x6 : Vec F S1x384x2048 .f32) (x7 : Vec F S1x384x2048 .fp8e4m3) (x8 : Vec F S5x384 .f32) :
    Σ' (L6 : List (View.Piece (Elt F) S1x384x2048 .f32)) (L7 : List (View.Piece (Elt F) S1x384x2048 .fp8e4m3)), { L8 : List (View.Piece (Elt F) S5x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread x6) L6) ∗ (arg8.view.loc (c : Thread nD τ) ↦[arg8.view.set]{fullShare} arg8.view.writes (Elt F) (harg8.unread x7) L7) ∗ (arg9.view.loc (c : Thread nD τ) ↦[arg9.view.set]{fullShare} arg9.view.writes (Elt F) (harg9.unread x8) L8)) -∗ K ⟨⟩))
          ⊢ wp frame (wpE (defs₀ (F := F)) Variants.none c none) E (cc0_attn_out i arg1 harg1 arg2 harg2 arg3 harg3 arg4 harg4 arg5 harg5 arg6 harg6 arg7 harg7 arg8 harg8 arg9 harg9) K } := by
  refine ⟨?_, ?_, ?_, fun E K => ?run⟩
  case run =>
    simp only [cc0_attn_out_eq_skeleton]; unfold cc0_attn_out_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexact H7
    iexact H8

/-! ## What it stores -/

/-- The rows of `h1`, as the body computes them from its input blocks. -/
def rows (i : grid0.Coords) (x0 : Vec F S1x384x2048 .bf16) (x1 : Vec F S1x384x2048 .fp8e4m3) (x2 : Vec F S5x384 .f32) (x3 : Vec F S2048x2048 .fp8e4m3) (x4 : Vec F S1x2048 .f32) (x5 : Vec F S1x2048 .f32) : FVec F S384x2048 .f32 :=
  k0_pay3 (View.ld x2 (Rect.unit (k0_off1 i) S1x384.size (k0_off1_inb i))) x1 x3 x4 x0 x5

/-- The codes of an array of rows. -/
def codes (H : FVec F S384x2048 .f32) : FVec F S1x384x2048 .fp8e4m3 :=
  k0_pay1 (k0_pay11 H (k0_pay5 H) (k0_pay6 H) (k0_pay7 H) (k0_pay8 H)) (Scalar.ofBits .f32 0xC3E00000#32)

/-- Their scales, as one row. -/
def scaleRow (H : FVec F S384x2048 .f32) : FVec F S1x384 .f32 :=
  k0_pay2 (k0_pay10 (k0_pay5 H) (k0_pay6 H) (k0_pay7 H) (k0_pay8 H))

/-- Where the body reads and writes in the scales. -/
theorem off1_eq : ∀ i : grid0.Coords, k0_off1 i = ![(i 0).val, 0] := by decide +kernel

/-- A whole block stored, read back. -/
theorem read_all {e : EltTy} (v : View sig .tc .vmem S1x384x2048 e) (f : v.ty.Contents (Elt F)) (w : Vec F S1x384x2048 e) :
    v.read (Elt F) (v.writes (Elt F) f [⟨Rect.unit (s := S1x384x2048) ![0, 0, 0] S1x384x2048.size inb_S1x384x2048_S1x384x2048_0_0_0, w⟩]) = w := by
  funext y
  refine View.read_writes_cons_unit_of_mem v f _ w [] y y rfl fun a => ?_
  match a with
  | ⟨0, _⟩ => exact (Nat.zero_add _).symm
  | ⟨1, _⟩ => exact (Nat.zero_add _).symm
  | ⟨2, _⟩ => exact (Nat.zero_add _).symm

/-- A row of scales stored, read back. -/
theorem read_row (v : View sig .tc .vmem S5x384 .f32) (f : v.ty.Contents (Elt F)) (i : grid0.Coords) (x8 : Vec F S5x384 .f32)
    (hf : v.read (Elt F) f = x8) (T : FVec F S1x384 .f32) (inb : ∀ a, k0_off1 i a + S1x384.size a ≤ S5x384.size a) :
    v.read (Elt F) (v.writes (Elt F) f [⟨Rect.unit (s := S5x384) (k0_off1 i) S1x384.size inb, T⟩])
      = fun y => if (y 0).val = (i 0).val then T (ValueIdx.ix2 (0 : Fin 1) (y 1)) else x8 y := by
  funext y
  dsimp only
  split
  · rename_i h
    refine View.read_writes_cons_unit_of_mem v f _ T [] y (ValueIdx.ix2 (0 : Fin 1) (y 1)) (off1_eq i) fun a => ?_
    match a with
    | ⟨0, _⟩ => exact h
    | ⟨1, _⟩ => exact (Nat.zero_add _).symm
  · rename_i h
    refine (View.read_writes_cons_unit_of_not_mem v f _ T [] y (off1_eq i) 0 ?_).trans (congrFun hf y)
    show (y 0).val < (i 0).val ∨ (i 0).val + 1 ≤ (y 0).val
    omega

variable (c : Dev nD) (i : grid0.Coords) (arg1 : Memref sig .tc .vmem S1x384x2048 .bf16) (harg1 : arg1.IsWhole) (arg2 : Memref sig .tc .vmem S1x384x2048 .fp8e4m3) (harg2 : arg2.IsWhole)
    (arg3 : Memref sig .tc .vmem S5x384 .f32) (harg3 : arg3.IsWhole) (arg4 : Memref sig .tc .vmem S2048x2048 .fp8e4m3) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x384x2048 .f32) (harg7 : arg7.IsWhole) (arg8 : Memref sig .tc .vmem S1x384x2048 .fp8e4m3) (harg8 : arg8.IsWhole)
    (arg9 : Memref sig .tc .vmem S5x384 .f32) (harg9 : arg9.IsWhole)
    (x0 : Vec F S1x384x2048 .bf16) (x1 : Vec F S1x384x2048 .fp8e4m3) (x2 : Vec F S5x384 .f32) (x3 : Vec F S2048x2048 .fp8e4m3) (x4 : Vec F S1x2048 .f32) (x5 : Vec F S1x2048 .f32) (x6 : Vec F S1x384x2048 .f32) (x7 : Vec F S1x384x2048 .fp8e4m3) (x8 : Vec F S5x384 .f32)

theorem run_6 :
    arg7.view.read (Elt F) (arg7.view.writes (Elt F) (harg7.unread x6) (run c i arg1 harg1 arg2 harg2 arg3 harg3 arg4 harg4 arg5 harg5 arg6 harg6 arg7 harg7 arg8 harg8 arg9 harg9 x0 x1 x2 x3 x4 x5 x6 x7 x8).1)
      = k0_pay4 (rows i x0 x1 x2 x3 x4 x5) := by
  refine Eq.trans ?_ (read_all arg7.view (harg7.unread x6) (k0_pay4 (rows i x0 x1 x2 x3 x4 x5)))
  unfold rows
  frame_out

theorem run_7 :
    arg8.view.read (Elt F) (arg8.view.writes (Elt F) (harg8.unread x7) (run c i arg1 harg1 arg2 harg2 arg3 harg3 arg4 harg4 arg5 harg5 arg6 harg6 arg7 harg7 arg8 harg8 arg9 harg9 x0 x1 x2 x3 x4 x5 x6 x7 x8).2.1)
      = codes (rows i x0 x1 x2 x3 x4 x5) := by
  refine Eq.trans ?_ (read_all arg8.view (harg8.unread x7) (codes (rows i x0 x1 x2 x3 x4 x5)))
  unfold codes rows
  frame_out

theorem run_8 :
    arg9.view.read (Elt F) (arg9.view.writes (Elt F) (harg9.unread x8) (run c i arg1 harg1 arg2 harg2 arg3 harg3 arg4 harg4 arg5 harg5 arg6 harg6 arg7 harg7 arg8 harg8 arg9 harg9 x0 x1 x2 x3 x4 x5 x6 x7 x8).2.2.1)
      = fun y => if (y 0).val = (i 0).val then scaleRow (rows i x0 x1 x2 x3 x4 x5) (ValueIdx.ix2 (0 : Fin 1) (y 1)) else x8 y := by
  refine Eq.trans ?_ (read_row arg9.view (harg9.unread x8) i x8 (harg9.read_unread x8) (scaleRow (rows i x0 x1 x2 x3 x4 x5)) (k0_off1_inb i))
  unfold scaleRow rows
  frame_out

end Cert.Proj.Run

end
-- ==== Proof.ProjRun.lean ====
/-
  The output projection: its run over the grid, what the three results' buffers hold after each point, and its frame.
-/
module

public import proofs.«01_k».proof.Proof.ProjTile
public import Idealize.ShloMosaic.Lib.Pipeline.DatRel

@[expose] public section

set_option maxRecDepth 16384

noncomputable section

namespace Cert.Proj.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of `h1` at a point. -/
def rowsAt (c : Dev nD) (t : Fin cfg0.N) : FVec F S384x2048 .f32 := rows (grid0.coords t) (iblk m c 0 t) (iblk m c 1 t) (iblk m c 2 t) (iblk m c 3 t) (iblk m c 4 t) (iblk m c 5 t)

theorem coords_0 : ∀ t : Fin cfg0.N, (grid0.coords t 0).val = t.val := by decide +kernel

/-- What the scales' buffer holds after a point: the row of every point so far. -/
def Rows (c : Dev nD) (n : ℕ) (X : Vec F S5x384 .f32) : Prop :=
  ∀ u : Fin cfg0.N, u.val ≤ n → ∀ (b : Fin 5), b.val = u.val → ∀ r : Fin 384,
    X (ValueIdx.ix2 b r) = scaleRow (rowsAt m c u) (ValueIdx.ix2 (0 : Fin 1) r)

/-- A point adds its row. -/
theorem rows_add (c : Dev nD) (t : Fin cfg0.N) (X : Vec F S5x384 .f32) (hX : t.val ≠ 0 → Rows m c (t.val - 1) X) :
    Rows m c t.val (fun y => if (y 0).val = (grid0.coords t 0).val then scaleRow (rowsAt m c t) (ValueIdx.ix2 (0 : Fin 1) (y 1)) else X y) :=
  fun u hle b hb r => by
  by_cases hu : u = t
  · subst hu
    exact if_pos (hb.trans (coords_0 u).symm)
  · have hv : u.val ≠ t.val := fun e => hu (Fin.ext e)
    refine (if_neg ?_).trans (hX (by omega) u (by omega) b hb r)
    show ¬b.val = _
    rw [coords_0, hb]
    omega

/-! ## The proof data -/

/-- The windows whose contents are described by a predicate: the three results. -/
def marks : Fin 9 → Bool := fun w => w.val == 6 || w.val == 7 || w.val == 8

/-- The predicates. -/
def Holds (c : Dev nD) (w : Fin cfg0.W) (t : Fin cfg0.N) (X : (cfg0.win w).block.Idx → (Elt F) (cfg0.win w).elt) : Prop :=
  match w, X with
  | ⟨6, _⟩, X => X = k0_pay4 (rowsAt m c t)
  | ⟨7, _⟩, X => X = codes (rowsAt m c t)
  | ⟨8, _⟩, X => Rows m c t.val X
  | _, _ => True

/-- The proof data: each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The same with the results' predicates. -/
abbrev rdat (c : Dev nD) := (dats m 0 c).toRRel marks (Holds m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An input's buffer after the body. -/
theorem leaves0_0 (c : Dev nD) (t : Fin cfg0.N) : ((dats m 0 c).leaves 0 t : sProp 𝕄) = owns (c : Thread nD τ) (ms0_0 t) fullShare (iblk m c 0 t) := by
  unfold Dat.leaves; rw [liveAt0_0 t, after0_0]
theorem leaves0_1 (c : Dev nD) (t : Fin cfg0.N) : ((dats m 0 c).leaves 1 t : sProp 𝕄) = owns (c : Thread nD τ) (ms0_1 t) fullShare (iblk m c 1 t) := by
  unfold Dat.leaves; rw [liveAt0_1 t, after0_1]
theorem leaves0_2 (c : Dev nD) (t : Fin cfg0.N) : ((dats m 0 c).leaves 2 t : sProp 𝕄) = owns (c : Thread nD τ) (ms0_2 t) fullShare (iblk m c 2 t) := by
  unfold Dat.leaves; rw [liveAt0_2 t, after0_2]
theorem leaves0_3 (c : Dev nD) (t : Fin cfg0.N) : ((dats m 0 c).leaves 3 t : sProp 𝕄) = owns (c : Thread nD τ) (ms0_3 t) fullShare (iblk m c 3 t) := by
  unfold Dat.leaves; rw [liveAt0_3 t, after0_3]
theorem leaves0_4 (c : Dev nD) (t : Fin cfg0.N) : ((dats m 0 c).leaves 4 t : sProp 𝕄) = owns (c : Thread nD τ) (ms0_4 t) fullShare (iblk m c 4 t) := by
  unfold Dat.leaves; rw [liveAt0_4 t, after0_4]
theorem leaves0_5 (c : Dev nD) (t : Fin cfg0.N) : ((dats m 0 c).leaves 5 t : sProp 𝕄) = owns (c : Thread nD τ) (ms0_5 t) fullShare (iblk m c 5 t) := by
  unfold Dat.leaves; rw [liveAt0_5 t, after0_5]

/-- The scales' buffer is never fetched. -/
theorem nofetch_8 : ∀ t : Fin cfg0.N, (cfg0.win 8).fetch t = false := by decide +kernel

/-- What the body finds in the scales' buffer: the rows so far. -/
theorem finds_8 (c : Dev nD) (t : Fin cfg0.N) (Y) (h : (rdat m c).Finds 8 t Y) : t.val ≠ 0 → Rows m c (t.val - 1) Y := fun ht => by
  have hN : t.val < 5 := lt_of_lt_of_eq t.isLt N_0
  have hfe : (cfg0.win 8).fetch t = false := nofetch_8 t
  rcases (Pipeline.RDat.finds_of_pos (rd := rdat m c) hfe ht Y).mp h with h | h
  · exact absurd ((flush0_8 _).mp h) (by show ¬(t.val - 1) % 5 = 4; omega)
  · exact (dats m 0 c).toRRel_leaves (w := 8) rfl h

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, ⌜Holds m c 6 t X⌝ ∗ owns (c : Thread nD τ) (ms0_6 t) fullShare X)
    ∗ (∃ X, ⌜Holds m c 7 t X⌝ ∗ owns (c : Thread nD τ) (ms0_7 t) fullShare X)
    ∗ (∃ X, ⌜Holds m c 8 t X⌝ ∗ owns (c : Thread nD τ) (ms0_8 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t) y6 y7 y8).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap
    · unfold owns; iexists _; isplitr
      swap; · iexact H6
      ipureintro; exact run_6 c (grid0.coords t) _ _ _ _ _ _ _ _ _ _ _ _ _ _ _ _ _ _ _ _ _ _ _ _ _ _ _
    · ipureintro; exact rfl
  isplitl [H7]
  · iexists _; isplitr; swap
    · unfold owns; iexists _; isplitr
      swap; · iexact H7
      ipureintro; exact run_7 c (grid0.coords t) _ _ _ _ _ _ _ _ _ _ _ _ _ _ _ _ _ _ _ _ _ _ _ _ _ _ _
    · ipureintro; exact rfl
  iexists _; isplitr; swap
  · unfold owns; iexists _; isplitr
    swap; · iexact H8
    ipureintro; exact run_8 c (grid0.coords t) _ _ _ _ _ _ _ _ _ _ _ _ _ _ _ _ _ _ _ _ _ _ _ _ _ _ _
  · ipureintro; exact rows_add m c t y8 (finds_8 m c t y8 hy8)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : Pipeline.BodyObligationRel (dats (F := F) m 0 c) (defs₀ (F := F)) Variants.none () Set.univ marks (Holds m c) := fun t => by
  rw [bigSep_W0, bigSep_W0, defs₀_row]
  exact triple_restated (sound_body m c t) rfl .rfl fun _ => .rfl

/-! ## The launch -/

/-- The launch over data whose outputs are held to predicates, for any data. -/
theorem launch_of (dat : (p : Fin 1) → (c : Dev nD) → Dat τ (Elt F) Unit ℕ (UR sig nD τ) ℕ (cfgs p) c)
    (fgt : Fin (cfgs 0).W → Bool) (Rl : (c : Dev nD) → (w : Fin (cfgs 0).W) → Fin (cfgs 0).N → (((cfgs 0).win w).block.Idx → (Elt F) ((cfgs 0).win w).elt) → Prop)
    (hbody : ∀ c, Pipeline.BodyObligationRel (dat 0 c) (defs₀ (F := F)) Variants.none () Set.univ fgt (Rl c))
    (hshare : ∀ c w, (dat 0 c).share w = fullShare) (howed : ∀ c t, (dat 0 c).owed t = 0)
    (hA : ∀ c w, (dat 0 c).A w = V m c (Pipeline.arrRef (cfgs 0).spec w))
    (hin : ∀ c, Pipeline.ΦA (cfgs 0).spec c ⊢ (dat 0 c).Φ 0) (hout : ∀ c, (dat 0 c).Φ (Fin.last (cfgs 0).N) ⊢ Pipeline.ΦA (cfgs 0).spec c) :
    θ_run defs (onTc (τ := τ) (main (F := F))) (s₀ m ρ) (fun r => (Pipeline.RDat.FramePost (cfgs 0) (fun c => (dat 0 c).toRRel fgt (Rl c)) (V m)) r ∧ r.2.sem = fun _ => 0) :=
  Pipeline.RDat.θ_run_frame_track (Q' := _) cfgs (0 : Fin 1) launch0 defs₀ Variants.none (fun c => (dat 0 c).toRRel fgt (Rl c)) m ρ main
    (hbody := fun c => (hbody c).toRRel) (hshare := hshare) (howed := howed) (V := V m) (hmain := hmain m Variants.none) (hA := hA) (hin := hin) (hout := hout)
    (hQ' := fun _ h => h)

set_option backward.isDefEq.respectTransparency.types false in
/-- The launch: every run ends with the three results as their predicates say and all counters at zero. -/
theorem run_main : θ_run defs (onTc (τ := τ) (main (F := F))) (s₀ m ρ) (fun r => (Pipeline.RDat.FramePost (cfgs 0) (fun c => rdat m c) (V m)) r ∧ r.2.sem = fun _ => 0) :=
  launch_of m ρ (dats m) marks (Holds m) (body_obligation m) (fun c => (dats m 0 c).share_full fun _ => rfl) (fun _ _ => rfl) (A_eq m) (fun _ => .rfl) (fun _ => .rfl)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
      (Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c)⟩, hr.2⟩)
    (run_main m ρ)

end Cert.Proj.Run

end
-- ==== Proof.ProjIdealTile.lean ====
/-
  The output projection's body: its run, and what it stores in each of its three results.
-/
module

public import proofs.«01_k».proof.Proof.Gen.ProjIdeal.Skeleton
public import proofs.«01_k».proof.Proof.Gen.ProjIdeal.Frame
public import Idealize.ShloMosaic.Lib.Pipeline.ValueKit
public import Idealize.ShloMosaic.Lib.WritesUnit

@[expose] public section

set_option maxRecDepth 16384

noncomputable section

namespace Cert.ProjIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

/-! ## The windows' buffers -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev ms0_0 (t : Fin cfg0.N) : Memref sig .tc .vmem S1x384x2048 .bf16 := win0_0.stage (cfg0.slots t 0)
abbrev ms0_1 (t : Fin cfg0.N) : Memref sig .tc .vmem S1x384x2048 .fp8e4m3 := win0_1.stage (cfg0.slots t 1)
abbrev ms0_2 (t : Fin cfg0.N) : Memref sig .tc .vmem S5x384 .f32 := win0_2.stage (cfg0.slots t 2)
abbrev ms0_3 (t : Fin cfg0.N) : Memref sig .tc .vmem S2048x2048 .fp8e4m3 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1x2048 .f32 := win0_5.stage (cfg0.slots t 5)
abbrev ms0_6 (t : Fin cfg0.N) : Memref sig .tc .vmem S1x384x2048 .f32 := win0_6.stage (cfg0.slots t 6)
abbrev ms0_7 (t : Fin cfg0.N) : Memref sig .tc .vmem S1x384x2048 .fp8e4m3 := win0_7.stage (cfg0.slots t 7)
abbrev ms0_8 (t : Fin cfg0.N) : Memref sig .tc .vmem S5x384 .f32 := win0_8.stage (cfg0.slots t 8)

/-! ## The run -/

set_option maxHeartbeats 4000000 in
/-- The body on whole memrefs with named contents: what it stores in each result's buffer, as pieces, with the proof that it
    runs and leaves the buffers with just those pieces written. -/
noncomputable def run (c : Dev nD) (i : grid0.Coords) (arg1 : Memref sig .tc .vmem S1x384x2048 .bf16) (harg1 : arg1.IsWhole) (arg2 : Memref sig .tc .vmem S1x384x2048 .fp8e4m3) (harg2 : arg2.IsWhole)
    (arg3 : Memref sig .tc .vmem S5x384 .f32) (harg3 : arg3.IsWhole) (arg4 : Memref sig .tc .vmem S2048x2048 .fp8e4m3) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x384x2048 .f32) (harg7 : arg7.IsWhole) (arg8 : Memref sig .tc .vmem S1x384x2048 .fp8e4m3) (harg8 : arg8.IsWhole)
    (arg9 : Memref sig .tc .vmem S5x384 .f32) (harg9 : arg9.IsWhole)
    (x0 : Vec F S1x384x2048 .bf16) (x1 : Vec F S1x384x2048 .fp8e4m3) (x2 : Vec F S5x384 .f32) (x3 : Vec F S2048x2048 .fp8e4m3) (x4 : Vec F S1x2048 .f32) (x5 : Vec F S1x2048 .f32) (x6 : Vec F S1x384x2048 .f32) (x7 : Vec F S1x384x2048 .fp8e4m3) (x8 : Vec F S5x384 .f32) :
    Σ' (L6 : List (View.Piece (Elt F) S1x384x2048 .f32)) (L7 : List (View.Piece (Elt F) S1x384x2048 .fp8e4m3)), { L8 : List (View.Piece (Elt F) S5x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg7.view.loc (c : Thread nD τ) ↦[arg7.view.set]{fullShare} arg7.view.writes (Elt F) (harg7.unread x6) L6) ∗ (arg8.view.loc (c : Thread nD τ) ↦[arg8.view.set]{fullShare} arg8.view.writes (Elt F) (harg8.unread x7) L7) ∗ (arg9.view.loc (c : Thread nD τ) ↦[arg9.view.set]{fullShare} arg9.view.writes (Elt F) (harg9.unread x8) L8)) -∗ K ⟨⟩))
          ⊢ wp frame (wpE (defs₀ (F := F)) Variants.none c none) E (cc0_attn_out i arg1 harg1 arg2 harg2 arg3 harg3 arg4 harg4 arg5 harg5 arg6 harg6 arg7 harg7 arg8 harg8 arg9 harg9) K } := by
  refine ⟨?_, ?_, ?_, fun E K => ?run⟩
  case run =>
    simp only [cc0_attn_out_eq_skeleton]; unfold cc0_attn_out_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexact H6
    isplitl [H7]; · iexact H7
    iexact H8

/-! ## What it stores -/

/-- The rows of `h1`, as the body computes them from its input blocks. -/
def rows (i : grid0.Coords) (x0 : Vec F S1x384x2048 .bf16) (x1 : Vec F S1x384x2048 .fp8e4m3) (x2 : Vec F S5x384 .f32) (x3 : Vec F S2048x2048 .fp8e4m3) (x4 : Vec F S1x2048 .f32) (x5 : Vec F S1x2048 .f32) : FVec F S384x2048 .f32 :=
  k0_pay3 (View.ld x2 (Rect.unit (k0_off1 i) S1x384.size (k0_off1_inb i))) x1 x3 x4 x0 x5

/-- The codes of an array of rows. -/
def codes (H : FVec F S384x2048 .f32) : FVec F S1x384x2048 .fp8e4m3 :=
  k0_pay1 (k0_pay11 H (k0_pay5 H) (k0_pay6 H) (k0_pay7 H) (k0_pay8 H)) (Scalar.ofBits .f32 0xC3E00000#32)

/-- Their scales, as one row. -/
def scaleRow (H : FVec F S384x2048 .f32) : FVec F S1x384 .f32 :=
  k0_pay2 (k0_pay10 (k0_pay5 H) (k0_pay6 H) (k0_pay7 H) (k0_pay8 H))

/-- Where the body reads and writes in the scales. -/
theorem off1_eq : ∀ i : grid0.Coords, k0_off1 i = ![(i 0).val, 0] := by decide +kernel

/-- A whole block stored, read back. -/
theorem read_all {e : EltTy} (v : View sig .tc .vmem S1x384x2048 e) (f : v.ty.Contents (Elt F)) (w : Vec F S1x384x2048 e) :
    v.read (Elt F) (v.writes (Elt F) f [⟨Rect.unit (s := S1x384x2048) ![0, 0, 0] S1x384x2048.size inb_S1x384x2048_S1x384x2048_0_0_0, w⟩]) = w := by
  funext y
  refine View.read_writes_cons_unit_of_mem v f _ w [] y y rfl fun a => ?_
  match a with
  | ⟨0, _⟩ => exact (Nat.zero_add _).symm
  | ⟨1, _⟩ => exact (Nat.zero_add _).symm
  | ⟨2, _⟩ => exact (Nat.zero_add _).symm

/-- A row of scales stored, read back. -/
theorem read_row (v : View sig .tc .vmem S5x384 .f32) (f : v.ty.Contents (Elt F)) (i : grid0.Coords) (x8 : Vec F S5x384 .f32)
    (hf : v.read (Elt F) f = x8) (T : FVec F S1x384 .f32) (inb : ∀ a, k0_off1 i a + S1x384.size a ≤ S5x384.size a) :
    v.read (Elt F) (v.writes (Elt F) f [⟨Rect.unit (s := S5x384) (k0_off1 i) S1x384.size inb, T⟩])
      = fun y => if (y 0).val = (i 0).val then T (ValueIdx.ix2 (0 : Fin 1) (y 1)) else x8 y := by
  funext y
  dsimp only
  split
  · rename_i h
    refine View.read_writes_cons_unit_of_mem v f _ T [] y (ValueIdx.ix2 (0 : Fin 1) (y 1)) (off1_eq i) fun a => ?_
    match a with
    | ⟨0, _⟩ => exact h
    | ⟨1, _⟩ => exact (Nat.zero_add _).symm
  · rename_i h
    refine (View.read_writes_cons_unit_of_not_mem v f _ T [] y (off1_eq i) 0 ?_).trans (congrFun hf y)
    show (y 0).val < (i 0).val ∨ (i 0).val + 1 ≤ (y 0).val
    omega

variable (c : Dev nD) (i : grid0.Coords) (arg1 : Memref sig .tc .vmem S1x384x2048 .bf16) (harg1 : arg1.IsWhole) (arg2 : Memref sig .tc .vmem S1x384x2048 .fp8e4m3) (harg2 : arg2.IsWhole)
    (arg3 : Memref sig .tc .vmem S5x384 .f32) (harg3 : arg3.IsWhole) (arg4 : Memref sig .tc .vmem S2048x2048 .fp8e4m3) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x384x2048 .f32) (harg7 : arg7.IsWhole) (arg8 : Memref sig .tc .vmem S1x384x2048 .fp8e4m3) (harg8 : arg8.IsWhole)
    (arg9 : Memref sig .tc .vmem S5x384 .f32) (harg9 : arg9.IsWhole)
    (x0 : Vec F S1x384x2048 .bf16) (x1 : Vec F S1x384x2048 .fp8e4m3) (x2 : Vec F S5x384 .f32) (x3 : Vec F S2048x2048 .fp8e4m3) (x4 : Vec F S1x2048 .f32) (x5 : Vec F S1x2048 .f32) (x6 : Vec F S1x384x2048 .f32) (x7 : Vec F S1x384x2048 .fp8e4m3) (x8 : Vec F S5x384 .f32)

theorem run_6 :
    arg7.view.read (Elt F) (arg7.view.writes (Elt F) (harg7.unread x6) (run c i arg1 harg1 arg2 harg2 arg3 harg3 arg4 harg4 arg5 harg5 arg6 harg6 arg7 harg7 arg8 harg8 arg9 harg9 x0 x1 x2 x3 x4 x5 x6 x7 x8).1)
      = k0_pay4 (rows i x0 x1 x2 x3 x4 x5) := by
  refine Eq.trans ?_ (read_all arg7.view (harg7.unread x6) (k0_pay4 (rows i x0 x1 x2 x3 x4 x5)))
  unfold rows
  frame_out

theorem run_7 :
    arg8.view.read (Elt F) (arg8.view.writes (Elt F) (harg8.unread x7) (run c i arg1 harg1 arg2 harg2 arg3 harg3 arg4 harg4 arg5 harg5 arg6 harg6 arg7 harg7 arg8 harg8 arg9 harg9 x0 x1 x2 x3 x4 x5 x6 x7 x8).2.1)
      = codes (rows i x0 x1 x2 x3 x4 x5) := by
  refine Eq.trans ?_ (read_all arg8.view (harg8.unread x7) (codes (rows i x0 x1 x2 x3 x4 x5)))
  unfold codes rows
  frame_out

theorem run_8 :
    arg9.view.read (Elt F) (arg9.view.writes (Elt F) (harg9.unread x8) (run c i arg1 harg1 arg2 harg2 arg3 harg3 arg4 harg4 arg5 harg5 arg6 harg6 arg7 harg7 arg8 harg8 arg9 harg9 x0 x1 x2 x3 x4 x5 x6 x7 x8).2.2.1)
      = fun y => if (y 0).val = (i 0).val then scaleRow (rows i x0 x1 x2 x3 x4 x5) (ValueIdx.ix2 (0 : Fin 1) (y 1)) else x8 y := by
  refine Eq.trans ?_ (read_row arg9.view (harg9.unread x8) i x8 (harg9.read_unread x8) (scaleRow (rows i x0 x1 x2 x3 x4 x5)) (k0_off1_inb i))
  unfold scaleRow rows
  frame_out

end Cert.ProjIdeal.Run

end
-- ==== Proof.ProjIdealRun.lean ====
/-
  The output projection: its run over the grid, what the three results' buffers hold after each point, and its frame.
-/
module

public import proofs.«01_k».proof.Proof.ProjIdealTile
public import Idealize.ShloMosaic.Lib.Pipeline.DatRel

@[expose] public section

set_option maxRecDepth 16384

noncomputable section

namespace Cert.ProjIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of `h1` at a point. -/
def rowsAt (c : Dev nD) (t : Fin cfg0.N) : FVec F S384x2048 .f32 := rows (grid0.coords t) (iblk m c 0 t) (iblk m c 1 t) (iblk m c 2 t) (iblk m c 3 t) (iblk m c 4 t) (iblk m c 5 t)

theorem coords_0 : ∀ t : Fin cfg0.N, (grid0.coords t 0).val = t.val := by decide +kernel

/-- What the scales' buffer holds after a point: the row of every point so far. -/
def Rows (c : Dev nD) (n : ℕ) (X : Vec F S5x384 .f32) : Prop :=
  ∀ u : Fin cfg0.N, u.val ≤ n → ∀ (b : Fin 5), b.val = u.val → ∀ r : Fin 384,
    X (ValueIdx.ix2 b r) = scaleRow (rowsAt m c u) (ValueIdx.ix2 (0 : Fin 1) r)

/-- A point adds its row. -/
theorem rows_add (c : Dev nD) (t : Fin cfg0.N) (X : Vec F S5x384 .f32) (hX : t.val ≠ 0 → Rows m c (t.val - 1) X) :
    Rows m c t.val (fun y => if (y 0).val = (grid0.coords t 0).val then scaleRow (rowsAt m c t) (ValueIdx.ix2 (0 : Fin 1) (y 1)) else X y) :=
  fun u hle b hb r => by
  by_cases hu : u = t
  · subst hu
    exact if_pos (hb.trans (coords_0 u).symm)
  · have hv : u.val ≠ t.val := fun e => hu (Fin.ext e)
    refine (if_neg ?_).trans (hX (by omega) u (by omega) b hb r)
    show ¬b.val = _
    rw [coords_0, hb]
    omega

/-! ## The proof data -/

/-- The windows whose contents are described by a predicate: the three results. -/
def marks : Fin 9 → Bool := fun w => w.val == 6 || w.val == 7 || w.val == 8

/-- The predicates. -/
def Holds (c : Dev nD) (w : Fin cfg0.W) (t : Fin cfg0.N) (X : (cfg0.win w).block.Idx → (Elt F) (cfg0.win w).elt) : Prop :=
  match w, X with
  | ⟨6, _⟩, X => X = k0_pay4 (rowsAt m c t)
  | ⟨7, _⟩, X => X = codes (rowsAt m c t)
  | ⟨8, _⟩, X => Rows m c t.val X
  | _, _ => True

/-- The proof data: each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The same with the results' predicates. -/
abbrev rdat (c : Dev nD) := (dats m 0 c).toRRel marks (Holds m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An input's buffer after the body. -/
theorem leaves0_0 (c : Dev nD) (t : Fin cfg0.N) : ((dats m 0 c).leaves 0 t : sProp 𝕄) = owns (c : Thread nD τ) (ms0_0 t) fullShare (iblk m c 0 t) := by
  unfold Dat.leaves; rw [liveAt0_0 t, after0_0]
theorem leaves0_1 (c : Dev nD) (t : Fin cfg0.N) : ((dats m 0 c).leaves 1 t : sProp 𝕄) = owns (c : Thread nD τ) (ms0_1 t) fullShare (iblk m c 1 t) := by
  unfold Dat.leaves; rw [liveAt0_1 t, after0_1]
theorem leaves0_2 (c : Dev nD) (t : Fin cfg0.N) : ((dats m 0 c).leaves 2 t : sProp 𝕄) = owns (c : Thread nD τ) (ms0_2 t) fullShare (iblk m c 2 t) := by
  unfold Dat.leaves; rw [liveAt0_2 t, after0_2]
theorem leaves0_3 (c : Dev nD) (t : Fin cfg0.N) : ((dats m 0 c).leaves 3 t : sProp 𝕄) = owns (c : Thread nD τ) (ms0_3 t) fullShare (iblk m c 3 t) := by
  unfold Dat.leaves; rw [liveAt0_3 t, after0_3]
theorem leaves0_4 (c : Dev nD) (t : Fin cfg0.N) : ((dats m 0 c).leaves 4 t : sProp 𝕄) = owns (c : Thread nD τ) (ms0_4 t) fullShare (iblk m c 4 t) := by
  unfold Dat.leaves; rw [liveAt0_4 t, after0_4]
theorem leaves0_5 (c : Dev nD) (t : Fin cfg0.N) : ((dats m 0 c).leaves 5 t : sProp 𝕄) = owns (c : Thread nD τ) (ms0_5 t) fullShare (iblk m c 5 t) := by
  unfold Dat.leaves; rw [liveAt0_5 t, after0_5]

/-- The scales' buffer is never fetched. -/
theorem nofetch_8 : ∀ t : Fin cfg0.N, (cfg0.win 8).fetch t = false := by decide +kernel

/-- What the body finds in the scales' buffer: the rows so far. -/
theorem finds_8 (c : Dev nD) (t : Fin cfg0.N) (Y) (h : (rdat m c).Finds 8 t Y) : t.val ≠ 0 → Rows m c (t.val - 1) Y := fun ht => by
  have hN : t.val < 5 := lt_of_lt_of_eq t.isLt N_0
  have hfe : (cfg0.win 8).fetch t = false := nofetch_8 t
  rcases (Pipeline.RDat.finds_of_pos (rd := rdat m c) hfe ht Y).mp h with h | h
  · exact absurd ((flush0_8 _).mp h) (by show ¬(t.val - 1) % 5 = 4; omega)
  · exact (dats m 0 c).toRRel_leaves (w := 8) rfl h

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, ⌜Holds m c 6 t X⌝ ∗ owns (c : Thread nD τ) (ms0_6 t) fullShare X)
    ∗ (∃ X, ⌜Holds m c 7 t X⌝ ∗ owns (c : Thread nD τ) (ms0_7 t) fullShare X)
    ∗ (∃ X, ⌜Holds m c 8 t X⌝ ∗ owns (c : Thread nD τ) (ms0_8 t) fullShare X))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%y6, %hy6, H6⟩, ⟨%y7, %hy7, H7⟩, ⟨%y8, %hy8, H8⟩⟩
  iapply ((run c (grid0.coords t) _ _ _ _ _ _ _ _ _ _ _ _ _ _ _ _ _ _ (iblk m c 0 t) (iblk m c 1 t) (iblk m c 2 t) (iblk m c 3 t) (iblk m c 4 t) (iblk m c 5 t) y6 y7 y8).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap
    · unfold owns; iexists _; isplitr
      swap; · iexact H6
      ipureintro; exact run_6 c (grid0.coords t) _ _ _ _ _ _ _ _ _ _ _ _ _ _ _ _ _ _ _ _ _ _ _ _ _ _ _
    · ipureintro; exact rfl
  isplitl [H7]
  · iexists _; isplitr; swap
    · unfold owns; iexists _; isplitr
      swap; · iexact H7
      ipureintro; exact run_7 c (grid0.coords t) _ _ _ _ _ _ _ _ _ _ _ _ _ _ _ _ _ _ _ _ _ _ _ _ _ _ _
    · ipureintro; exact rfl
  iexists _; isplitr; swap
  · unfold owns; iexists _; isplitr
    swap; · iexact H8
    ipureintro; exact run_8 c (grid0.coords t) _ _ _ _ _ _ _ _ _ _ _ _ _ _ _ _ _ _ _ _ _ _ _ _ _ _ _
  · ipureintro; exact rows_add m c t y8 (finds_8 m c t y8 hy8)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : Pipeline.BodyObligationRel (dats (F := F) m 0 c) (defs₀ (F := F)) Variants.none () Set.univ marks (Holds m c) := fun t => by
  rw [bigSep_W0, bigSep_W0, defs₀_row]
  exact triple_restated (sound_body m c t) rfl .rfl fun _ => .rfl

/-! ## The launch -/

/-- The launch over data whose outputs are held to predicates, for any data. -/
theorem launch_of (dat : (p : Fin 1) → (c : Dev nD) → Dat τ (Elt F) Unit ℕ (UR sig nD τ) ℕ (cfgs p) c)
    (fgt : Fin (cfgs 0).W → Bool) (Rl : (c : Dev nD) → (w : Fin (cfgs 0).W) → Fin (cfgs 0).N → (((cfgs 0).win w).block.Idx → (Elt F) ((cfgs 0).win w).elt) → Prop)
    (hbody : ∀ c, Pipeline.BodyObligationRel (dat 0 c) (defs₀ (F := F)) Variants.none () Set.univ fgt (Rl c))
    (hshare : ∀ c w, (dat 0 c).share w = fullShare) (howed : ∀ c t, (dat 0 c).owed t = 0)
    (hA : ∀ c w, (dat 0 c).A w = V m c (Pipeline.arrRef (cfgs 0).spec w))
    (hin : ∀ c, Pipeline.ΦA (cfgs 0).spec c ⊢ (dat 0 c).Φ 0) (hout : ∀ c, (dat 0 c).Φ (Fin.last (cfgs 0).N) ⊢ Pipeline.ΦA (cfgs 0).spec c) :
    θ_run defs (onTc (τ := τ) (main (F := F))) (s₀ m ρ) (fun r => (Pipeline.RDat.FramePost (cfgs 0) (fun c => (dat 0 c).toRRel fgt (Rl c)) (V m)) r ∧ r.2.sem = fun _ => 0) :=
  Pipeline.RDat.θ_run_frame_track (Q' := _) cfgs (0 : Fin 1) launch0 defs₀ Variants.none (fun c => (dat 0 c).toRRel fgt (Rl c)) m ρ main
    (hbody := fun c => (hbody c).toRRel) (hshare := hshare) (howed := howed) (V := V m) (hmain := hmain m Variants.none) (hA := hA) (hin := hin) (hout := hout)
    (hQ' := fun _ h => h)

set_option backward.isDefEq.respectTransparency.types false in
/-- The launch: every run ends with the three results as their predicates say and all counters at zero. -/
theorem run_main : θ_run defs (onTc (τ := τ) (main (F := F))) (s₀ m ρ) (fun r => (Pipeline.RDat.FramePost (cfgs 0) (fun c => rdat m c) (V m)) r ∧ r.2.sem = fun _ => 0) :=
  launch_of m ρ (dats m) marks (Holds m) (body_obligation m) (fun c => (dats m 0 c).share_full fun _ => rfl) (fun _ _ => rfl) (A_eq m) (fun _ => .rfl) (fun _ => .rfl)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨
      (Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c)⟩, hr.2⟩)
    (run_main m ρ)

end Cert.ProjIdeal.Run

end
-- ==== Proof.ProjSpec.lean ====
/-
  The output projection's mathematics over the extended reals: one token's row of `h1`, its codes and its scale.
-/
module

public import proofs.«01_k».proof.Proof.Quant
public import proofs.«01_k».proof.Proof.Rows
public import Idealize.ShloMosaic.Lib.Pointwise
public import proofs.«01_k».proof.Proof.Gen.ProjIdeal

@[expose] public section

set_option maxRecDepth 16384

noncomputable section

open Idealize.ShloMosaic

namespace Cert.ProjEq

open Cert.Rows Cert.Quant

/-- One token's row of `h1` from its `x` row, its codes and scale, the weight's codes and scales, and alpha. -/
def rowOf (x oc : Fin 2048 → EReal) (os : EReal) (w : Fin 2048 → Fin 2048 → EReal) (ws alpha : Fin 2048 → EReal) :
    Fin 2048 → EReal :=
  step x alpha (product oc w os ws)

theorem rowOf_congr {x x' oc oc' : Fin 2048 → EReal} {os os' : EReal} {w w' : Fin 2048 → Fin 2048 → EReal}
    {ws ws' alpha alpha' : Fin 2048 → EReal} {k : Fin 2048}
    (hx : ∀ n, x n = x' n) (hc : ∀ n, oc n = oc' n) (hs : os = os') (hw : ∀ n k, w n k = w' n k)
    (hws : ∀ n, ws n = ws' n) (ha : ∀ n, alpha n = alpha' n) :
    rowOf x oc os w ws alpha k = rowOf x' oc' os' w' ws' alpha' k := by
  obtain rfl := funext hx; obtain rfl := funext hc; obtain rfl := hs
  obtain rfl := funext fun n => funext (hw n); obtain rfl := funext hws; obtain rfl := funext ha
  rfl

section Arrays

open Cert.ProjIdeal

variable (x : FVec Ideal S5x384x2048 .bf16) (oc : FVec Ideal S5x384x2048 .fp8e4m3) (os : FVec Ideal S5x384 .f32)
  (w : FVec Ideal S2048x16x128 .fp8e4m3) (ws alpha : FVec Ideal S2048 .f32)

/-- The array `h1` from the argument arrays: column `n` of a product runs over the sixteen heads' 128 columns in order. -/
def hAt (b : Fin 5) (r : Fin 384) (k : Fin 2048) : EReal :=
  rowOf (fun n => x (ix3 b r n)) (fun n => oc (ix3 b r n)) (os (ix2 b r))
    (fun k n => w (ix3 k (⟨n.val / 128, by omega⟩ : Fin 16) (⟨n.val % 128, by omega⟩ : Fin 128)))
    (fun n => ws (ix1 n)) (fun n => alpha (ix1 n)) k

/-- What a token's scale is taken from. -/
def levelAt (b : Fin 5) (r : Fin 384) : EReal := level fun k => mag (hAt x oc os w ws alpha b r k)

/-- The array `h1`. -/
def rowsOf : FVec Ideal S5x384x2048 .f32 := fun i => hAt x oc os w ws alpha (i 0) (i 1) (i 2)

/-- The array of codes. -/
def codesOf : FVec Ideal S5x384x2048 .fp8e4m3 := fun i =>
  clip (hAt x oc os w ws alpha (i 0) (i 1) (i 2) * inverseRef (levelAt x oc os w ws alpha (i 0) (i 1)))

/-- The array of scales. -/
def scalesOf : FVec Ideal S5x384 .f32 := fun i => scaleRef (levelAt x oc os w ws alpha (i 0) (i 1))

end Arrays

end Cert.ProjEq

end
-- ==== Proof.ProjBlock.lean ====
/-
  The output projection: what one block of the kernel computes at an index.
-/
module

public import proofs.«01_k».proof.Proof.ProjIdealTile
public import proofs.«01_k».proof.Proof.ProjSpec
public import Idealize.ShloMosaic.Lib.Pointwise

@[expose] public section

set_option maxRecDepth 16384

noncomputable section

open Idealize.ShloMosaic

namespace Cert.ProjEq

open Cert.Rows Cert.Quant

section Kernel

open Cert.ProjIdeal Cert.ProjIdeal.Gen Cert.ProjIdeal.Run

/-- The kernel's rows of `h1`. -/
theorem kernel_rows (v1 : Vec Ideal S1x384 .f32) (v6 : Vec Ideal S1x384x2048 .fp8e4m3) (v8 : Vec Ideal S2048x2048 .fp8e4m3)
    (v12 : Vec Ideal S1x2048 .f32) (v24 : Vec Ideal S1x384x2048 .bf16) (v27 : Vec Ideal S1x2048 .f32) (r : Fin 384) (k : Fin 2048) :
    k0_pay3 v1 v6 v8 v12 v24 v27 (ix2 r k)
      = rowOf (fun n => v24 (ix3 0 r n)) (fun n => v6 (ix3 0 r n)) (v1 (ix2 0 r)) (fun k n => v8 (ix2 k n))
          (fun n => v12 (ix2 0 n)) (fun n => v27 (ix2 0 n)) k := by
  pointwise [k0_pay3]
  simp only [dite_eq_ite, ite_self]
  rfl

variable (H : FVec Ideal S384x2048 .f32)

/-- The stored block of `h1`. -/
theorem block_apply (z : Fin 1) (r : Fin 384) (k : Fin 2048) : k0_pay4 H (ix3 z r k) = H (ix2 r k) := by
  pointwise [k0_pay4]

/-- What a row's scale is taken from, in every lane. -/
theorem level_apply (r : Fin 384) (l : Fin 128) : k0_pay5 H (ix2 r l) = level fun k => mag (H (ix2 r k)) := by
  pointwise [k0_pay5]
  rfl

/-- The search's first five bits. -/
theorem high_apply (i : S384x128.Idx) :
    select (cmpf .oge (k0_pay5 H) (bitcastToFloat .f32 (k0_pay8 H))) (k0_pay7 H) (k0_pay6 H) i = high (k0_pay5 H i) := by
  unfold k0_pay8 k0_pay7 high
  refine (step_apply (k0_pay5 H) _ _ i).trans (congrArg _ ?_)
  unfold k0_pay6
  refine (step_apply (k0_pay5 H) _ _ i).trans (congrArg _ ?_)
  refine (step_apply (k0_pay5 H) _ _ i).trans (congrArg _ ?_)
  refine (step_apply (k0_pay5 H) _ _ i).trans (congrArg _ ?_)
  exact step_apply (k0_pay5 H) _ _ i

/-- The exponent, in every lane. -/
theorem expo_apply (i : S384x128.Idx) :
    k0_pay9 (k0_pay5 H) (k0_pay6 H) (k0_pay7 H) (k0_pay8 H) i = expo (k0_pay5 H i) := by
  unfold expo biased
  rw [← high_apply]
  unfold k0_pay9
  generalize k0_pay5 H = X
  generalize k0_pay6 H = Y
  generalize k0_pay7 H = Z
  generalize k0_pay8 H = W
  rfl

/-- A row's scale. -/
theorem scale_apply (z : Fin 1) (r : Fin 384) : scaleRow H (ix2 z r) = scale (level fun k => mag (H (ix2 r k))) := by
  rw [← level_apply H r 0]
  unfold scale
  rw [← expo_apply]
  unfold scaleRow k0_pay10
  generalize k0_pay9 (k0_pay5 H) (k0_pay6 H) (k0_pay7 H) (k0_pay8 H) = E
  pointwise [k0_pay2]
  rfl

/-- Sixteen copies of a row's 128 lanes, side by side. -/
theorem lanes_apply (W : FVec Ideal S384x128 .f32) (r : Fin 384) (k : Fin 2048) :
    concatenate S384x2048 1 [⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩, ⟨S384x128, W⟩]
        concatenates_S384x128_S384x128_S384x128_S384x128_S384x128_S384x128_S384x128_S384x128_S384x128_S384x128_S384x128_S384x128_S384x128_S384x128_S384x128_S384x128_S384x2048_d1 (ix2 r k)
      = W (ix2 r (⟨k.val % 128, by omega⟩ : Fin 128)) :=
  concatenate_replicate_apply (1 : Fin S384x2048.rank) 16 W _ rfl (ix2 r k) (ix2 r (⟨k.val % 128, by omega⟩ : Fin 128)) rfl
    (fun b hb => match b with
      | ⟨0, _⟩ => rfl
      | ⟨1, _⟩ => absurd rfl hb)

/-- The clipped codes. -/
theorem clip_apply (V : FVec Ideal S384x2048 .f32) (z : Fin 1) (r : Fin 384) (k : Fin 2048) :
    k0_pay1 V (Scalar.ofBits .f32 0xC3E00000#32) (ix3 z r k) = clip (V (ix2 r k)) := by
  pointwise [k0_pay1]
  unfold clip
  with_reducible rfl

/-- A row's codes. -/
theorem codes_apply (z : Fin 1) (r : Fin 384) (k : Fin 2048) :
    codes H (ix3 z r k) = clip (H (ix2 r k) * inverse (level fun k => mag (H (ix2 r k)))) := by
  rw [← level_apply H r (⟨k.val % 128, by omega⟩ : Fin 128)]
  unfold inverse
  rw [← expo_apply]
  unfold codes
  rw [clip_apply]
  unfold k0_pay11
  generalize k0_pay9 (k0_pay5 H) (k0_pay6 H) (k0_pay7 H) (k0_pay8 H) = E
  exact congrArg (fun x => clip (H (ix2 r k) * x)) (lanes_apply _ r k)

end Kernel

end Cert.ProjEq

end
-- ==== Proof.ProjKernelValue.lean ====
/-
  The output projection: what the kernel's three result arrays hold after its run.
-/
module

public import proofs.«01_k».proof.Proof.ProjBlock
public import proofs.«01_k».proof.Proof.ProjIdealRun
public import proofs.«01_k».proof.Proof.Level
public import Idealize.ShloMosaic.Lib.Pipeline.ArrRel
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Result

open Cert.ProjIdeal Cert.ProjIdeal.Gen Cert.ProjIdeal.Run Cert.ProjEq Cert.Quant

variable (m : (ℓ : Loc nD τ sig) → Buf (Elt Ideal) ℓ)

theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![t.val, 0, 0] ∧ win0_7.index t = ![t.val, 0, 0] ∧ win0_8.index t = ![0, 0]
    ∧ k0_off1 (grid0.coords t) = ![t.val, 0] :=
  (by decide +kernel)

/-- The argument arrays' `h1`. -/
abbrev hOf (c : Dev nD) (b : Fin 5) (r : Fin 384) (k : Fin 2048) : EReal :=
  hAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b r k

/-- The rows at a grid point are those of its batch entry. -/
theorem rows_at (c : Dev nD) (t : Fin cfg0.N) (b : Fin 5) (hb : b.val = t.val) (r : Fin 384) (k : Fin 2048) :
    rowsAt m c t (ix2 r k) = hOf m c b r k := by
  unfold rowsAt rows
  rw [kernel_rows]
  unfold hOf hAt
  refine rowOf_congr (fun x => ?_) (fun x => ?_) ?_ (fun n x => ?_) (fun n => ?_) (fun n => ?_)
  · blk_simp [iblk, V, idx t]
    refine congrArg (m ((c : Thread nD τ).loc main_arg0)) (funext fun a => Fin.ext ?_)
    match a with
    | ⟨0, _⟩ => blk_simp [idx t]; try omega
    | ⟨1, _⟩ => blk_simp [idx t]; try omega
    | ⟨2, _⟩ => blk_simp [idx t]; try omega
  · blk_simp [iblk, V, idx t]
    refine congrArg (m ((c : Thread nD τ).loc main_arg1)) (funext fun a => Fin.ext ?_)
    match a with
    | ⟨0, _⟩ => blk_simp [idx t]; try omega
    | ⟨1, _⟩ => blk_simp [idx t]; try omega
    | ⟨2, _⟩ => blk_simp [idx t]; try omega
  · refine (View.ld_unit_apply_of (S := S5x384) _ _ _ _ _ (ix2 b r) fun a => ?_).trans ?_
    · have e := congrFun (idx t).2.2.2.2.2.2.2.2.2 a
      match a with
      | ⟨0, _⟩ => exact hb.trans ((congrArg (· + 0) e).trans rfl).symm
      | ⟨1, _⟩ => exact ((congrArg (· + r.val) e).trans (Nat.zero_add _)).symm
    · blk_ext [iblk, V, idx t]
  · blk_simp [iblk, idx t]; unfold V; entry_read; pointwise
    refine congrArg (m ((c : Thread nD τ).loc main_arg3)) (funext fun a => Fin.ext ?_)
    match a with
    | ⟨0, _⟩ => blk_simp [idx t]; try omega
    | ⟨1, _⟩ => blk_simp [idx t]; try omega
    | ⟨2, _⟩ => blk_simp [idx t]; try omega
  · blk_simp [iblk, idx t]; unfold V; entry_read; pointwise; blk_ext [idx t]
  · blk_simp [iblk, idx t]; unfold V; entry_read; pointwise; blk_ext [idx t]

/-- The level of a row. -/
theorem level_at (c : Dev nD) (t : Fin cfg0.N) (b : Fin 5) (hb : b.val = t.val) (r : Fin 384) :
    (level fun k => mag (rowsAt m c t (ix2 r k))) = level fun k => mag (hOf m c b r k) :=
  congrArg level (funext fun k => congrArg mag (rows_at m c t b hb r k))

/-- A batch entry's codes. -/
theorem codes_at (c : Dev nD) (t : Fin cfg0.N) (b : Fin 5) (hb : b.val = t.val) (z : Fin 1) (r : Fin 384) (k : Fin 2048) :
    codes (rowsAt m c t) (ix3 z r k) = clip (hOf m c b r k * inverseRef (level fun k => mag (hOf m c b r k))) := by
  rw [codes_apply, level_at m c t b hb r, rows_at m c t b hb, inverse_eq _ (level_nonneg _ ⟨0, by decide⟩)]

/-- A batch entry's scales. -/
theorem scale_at (c : Dev nD) (t : Fin cfg0.N) (b : Fin 5) (hb : b.val = t.val) (r : Fin 384) :
    scaleRow (rowsAt m c t) (ix2 0 r) = scaleRef (level fun k => mag (hOf m c b r k)) := by
  rw [scale_apply, level_at m c t b hb r]
  exact scale_eq _ (level_nonneg _ ⟨0, by decide⟩)

/-- What the run leaves in the three result arrays. -/
theorem results (ρ : Dev nD → PrngReg) : θ_run defs (onTc (τ := τ) (main (F := Ideal))) ⟨m, fun _ => 0, ρ⟩ (fun r => ∀ c : Dev nD,
      r.2.mem ((c.tc : Thread nD τ).loc main_v3_0)
        = rowsOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v3_1)
        = codesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v3_2)
        = scalesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r hr c => ⟨?_, ?_, ?_,
      (Pipeline.RDat.FramePost.arr_in hr.1 c 0 rfl).trans ((A_eq m c 0).trans (V_main_arg0 m c)),
      (Pipeline.RDat.FramePost.arr_in hr.1 c 1 rfl).trans ((A_eq m c 1).trans (V_main_arg1 m c)),
      (Pipeline.RDat.FramePost.arr_in hr.1 c 2 rfl).trans ((A_eq m c 2).trans (V_main_arg2 m c)),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      ((hr.1 c).2 main_arg5 (Pipeline.mem_restRefs_of main_arg5 (by decide) (by decide))).trans (V_main_arg5 m c)⟩)
    (run_main m ρ)
  · obtain ⟨after, hl, ha⟩ := Pipeline.RDat.FramePost.exists_exact hr.1 c
    refine (ha 6).trans (((rdat m c).withAfter after).arrAt_eq_of_covers 6 _ (by decide +kernel) fun t hf y => ?_)
    have hw : after 6 t = k0_pay4 (rowsAt m c t) := (dats m 0 c).toRRel_leaves (w := 6) rfl (hl 6 t hf)
    have hb : ((rdat m c).withAfter after).after 6 t = k0_pay4 (rowsAt m c t) := hw
    blk_simp
    rw [hb]
    idx_vars y
    have hN : t.val < 5 := lt_of_lt_of_eq t.isLt N_0
    have e : ((View.whole main_v3_0).slice (win0_6.rect t)).emb (ix3 y0 y1 y2) = ix3 (⟨t.val, by omega⟩ : Fin 5) y1 y2 := funext fun a => Fin.ext (by
      match a with
      | ⟨0, _⟩ => blk_simp [idx t]
      | ⟨1, _⟩ => blk_simp [idx t]
      | ⟨2, _⟩ => blk_simp [idx t])
    rw [e]
    exact (block_apply _ _ _ _).trans (rows_at m c t ⟨t.val, by omega⟩ rfl y1 y2)
  · obtain ⟨after, hl, ha⟩ := Pipeline.RDat.FramePost.exists_exact hr.1 c
    refine (ha 7).trans (((rdat m c).withAfter after).arrAt_eq_of_covers 7 _ (by decide +kernel) fun t hf y => ?_)
    have hw : after 7 t = codes (rowsAt m c t) := (dats m 0 c).toRRel_leaves (w := 7) rfl (hl 7 t hf)
    have hb : ((rdat m c).withAfter after).after 7 t = codes (rowsAt m c t) := hw
    blk_simp
    rw [hb]
    idx_vars y
    have hN : t.val < 5 := lt_of_lt_of_eq t.isLt N_0
    have e : ((View.whole main_v3_1).slice (win0_7.rect t)).emb (ix3 y0 y1 y2) = ix3 (⟨t.val, by omega⟩ : Fin 5) y1 y2 := funext fun a => Fin.ext (by
      match a with
      | ⟨0, _⟩ => blk_simp [idx t]
      | ⟨1, _⟩ => blk_simp [idx t]
      | ⟨2, _⟩ => blk_simp [idx t])
    rw [e]
    exact codes_at m c t ⟨t.val, by omega⟩ rfl y0 y1 y2
  · obtain ⟨after, hl, ha⟩ := Pipeline.RDat.FramePost.exists_exact hr.1 c
    refine (ha 8).trans (((rdat m c).withAfter after).arrAt_eq_of_covers 8 _ (by decide +kernel) fun t hf y => ?_)
    have hw : Rows m c t.val (after 8 t) := (dats m 0 c).toRRel_leaves (w := 8) rfl (hl 8 t hf)
    blk_simp
    idx_vars y
    have h4 : t.val % 5 = 4 := (flush0_8 t).mp hf
    have hN : t.val < 5 := lt_of_lt_of_eq t.isLt N_0
    have e : ((View.whole main_v3_2).slice (win0_8.rect t)).emb (ix2 y0 y1) = ix2 y0 y1 := funext fun a => Fin.ext (by
      match a with
      | ⟨0, _⟩ => blk_simp [idx t]
      | ⟨1, _⟩ => blk_simp [idx t])
    rw [e]
    have hy := y0.isLt
    have hu : y0.val < cfg0.N := lt_of_lt_of_eq (by omega : y0.val < 5) N_0.symm
    exact (hw ⟨y0.val, hu⟩ (by show y0.val ≤ _; omega) y0 rfl y1).trans (scale_at m c ⟨y0.val, hu⟩ y0 rfl y1)

end Cert.ProjIdeal.Result

end
-- ==== Proof.ProjRefValue.lean ====
/-
  The output projection: what the reference computes at an index, and what its three result arrays hold after its run.
-/
module

public import proofs.«01_k».proof.Proof.Gen.ProjRefIdeal.Frame
public import proofs.«01_k».proof.Proof.ProjSpec
public import proofs.«01_k».proof.Proof.QuantVec
public import proofs.«01_k».proof.Defs
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjRefIdeal.Result

open Cert.ProjRefIdeal Cert.ProjRefIdeal.Gen Cert.ProjEq Cert.Quant

section Body

/-- The reference's array `h1`. -/
theorem ref_rows (v0 : Vec Ideal S5x384x2048 .fp8e4m3) (v2 : Vec Ideal S2048x2048 .fp8e4m3) (v6 : Vec Ideal S5x384 .f32)
    (v10 : Vec Ideal S1x2048 .f32) (v15 : Vec Ideal S5x384x2048 .bf16) (v17 : Vec Ideal S1x2048 .f32)
    (b : Fin 5) (r : Fin 384) (k : Fin 2048) :
    k0_pay3 v0 v2 v6 v10 v15 v17 (ix3 b r k)
      = rowOf (fun x => v15 (ix3 b r x)) (fun x => v0 (ix3 b r x)) (v6 (ix2 b r)) (fun n x => v2 (ix2 n x))
          (fun n => v10 (ix2 0 n)) (fun n => v17 (ix2 0 n)) k := by
  pointwise [k0_pay3]
  rfl

variable (H : FVec Ideal S5x384x2048 .f32)

theorem ref_level (b : Fin 5) (r : Fin 384) (z : Fin 1) :
    mulf (shapeCast S5x384x1 (multiReduction .maximumf [2] S5x384 (absf H) 0xFF800000#32 reduces_S5x384x2048_S5x384 (.inl rfl) rfl)
        shapeCasts_S5x384_S5x384x1) (broadcast S5x384x1 (Scalar.ofBits .f32 0x3B124925#32)) (ix3 b r z)
      = level fun k => mag (H (ix3 b r k)) := by
  have h (X : FVec Ideal S5x384 .f32) (x : EReal) (hX : X (ix2 b r) = x) :
      mulf (shapeCast S5x384x1 X shapeCasts_S5x384_S5x384x1) (broadcast S5x384x1 (Scalar.ofBits .f32 0x3B124925#32)) (ix3 b r z)
        = x * Ideal.ofBits .f32 991054117#32 := by
    subst hX
    pointwise
  exact h _ _ (max_last (absf H) _ _ _ b r)

theorem ref_expo (b : Fin 5) (r : Fin 384) (z : Fin 1) :
    k0_pay4 H (ix3 b r z) = expoRef (level fun k => mag (H (ix3 b r k))) := by
  unfold k0_pay4
  exact (expo_vec _ _).trans (congrArg expoRef (ref_level H b r z))

theorem ref_scale (b : Fin 5) (r : Fin 384) :
    k0_pay2 (k0_pay5 H) (ix2 b r) = scaleRef (level fun k => mag (H (ix3 b r k))) := by
  rw [← scaleOf_expo, ← ref_expo H b r 0]
  unfold k0_pay5
  generalize k0_pay4 H = E
  have h (X : FVec Ideal S5x384x1 .f32) : k0_pay2 X (ix2 b r) = X (ix3 b r 0) := by
    pointwise [k0_pay2]
  exact (h _).trans (scale_vec _ _)

theorem ref_code (b : Fin 5) (r : Fin 384) (k : Fin 2048) :
    k0_pay1 (k0_pay6 H) (Scalar.ofBits .f32 0xC3E00000#32) (Scalar.ofBits .f32 0x43E00000#32) (ix3 b r k)
      = clip (H (ix3 b r k) * inverseRef (level fun k => mag (H (ix3 b r k)))) := by
  rw [← inverseOf_expo, ← ref_expo H b r 0]
  unfold k0_pay6
  generalize k0_pay4 H = E
  have h (X : FVec Ideal S5x384x1 .f32) (e : EReal) (hX : X (ix3 b r 0) = e) :
      k0_pay1 (mulf H (broadcastTo S5x384x2048 X broadcasts_S5x384x1_S5x384x2048)) (Scalar.ofBits .f32 0xC3E00000#32)
          (Scalar.ofBits .f32 0x43E00000#32) (ix3 b r k)
        = clip (H (ix3 b r k) * e) := by
    subst hX
    pointwise [k0_pay1]
    unfold clip
    with_reducible rfl
  exact h _ _ (inverse_vec _ _)

end Body

section Blocks

variable (x0 : Vec Ideal S5x384x2048 .bf16) (x1 : Vec Ideal S5x384x2048 .fp8e4m3) (x2 : Vec Ideal S5x384 .f32)
  (x3 : Vec Ideal S2048x2048 .fp8e4m3) (x4 x5 : Vec Ideal S1x2048 .f32)

/-- The array `h1` from the arrays the body reads. -/
theorem rows_of (b : Fin 5) (r : Fin 384) (k : Fin 2048) :
    k0_pay7 x0 x1 x2 x3 x4 x5 (ix3 b r k)
      = rowOf (fun x => x0 (ix3 b r x)) (fun x => x1 (ix3 b r x)) (x2 (ix2 b r)) (fun n x => x3 (ix2 n x))
          (fun n => x4 (ix2 0 n)) (fun n => x5 (ix2 0 n)) k := by
  unfold k0_pay7
  rw [ref_rows]
  refine rowOf_congr (fun x => ?_) (fun x => ?_) ?_ (fun n x => ?_) (fun n => ?_) (fun n => ?_)
  · refine View.ld_unit_apply_of _ _ _ _ _ (ix3 b r x) fun a => ?_
    match a with
    | ⟨0, _⟩ => exact (Nat.zero_add _).symm
    | ⟨1, _⟩ => exact (Nat.zero_add _).symm
    | ⟨2, _⟩ => exact (Nat.zero_add _).symm
  · refine View.ld_unit_apply_of _ _ _ _ _ (ix3 b r x) fun a => ?_
    match a with
    | ⟨0, _⟩ => exact (Nat.zero_add _).symm
    | ⟨1, _⟩ => exact (Nat.zero_add _).symm
    | ⟨2, _⟩ => exact (Nat.zero_add _).symm
  · refine View.ld_unit_apply_of _ _ _ _ _ (ix2 b r) fun a => ?_
    match a with
    | ⟨0, _⟩ => exact (Nat.zero_add _).symm
    | ⟨1, _⟩ => exact (Nat.zero_add _).symm
  · refine View.ld_unit_apply_of _ _ _ _ _ (ix2 n x) fun a => ?_
    match a with
    | ⟨0, _⟩ => exact (Nat.zero_add _).symm
    | ⟨1, _⟩ => exact (Nat.zero_add _).symm
  · refine View.ld_unit_apply_of _ _ _ _ _ (ix2 (0 : Fin 1) n) fun a => ?_
    match a with
    | ⟨0, _⟩ => exact (Nat.zero_add _).symm
    | ⟨1, _⟩ => exact (Nat.zero_add _).symm
  · refine View.ld_unit_apply_of _ _ _ _ _ (ix2 (0 : Fin 1) n) fun a => ?_
    match a with
    | ⟨0, _⟩ => exact (Nat.zero_add _).symm
    | ⟨1, _⟩ => exact (Nat.zero_add _).symm

variable (b : Fin 5) (r : Fin 384) (e : Fin 2048 → EReal) (he : ∀ k, k0_pay7 x0 x1 x2 x3 x4 x5 (ix3 b r k) = e k)

include he

/-- The rows the body stores. -/
theorem out_rows (k : Fin 2048) : out0_6 x0 x1 x2 x3 x4 x5 (ix3 b r k) = e k := by
  rw [← he k]
  unfold out0_6
  generalize k0_pay7 x0 x1 x2 x3 x4 x5 = H
  frame_out

/-- The codes the body stores. -/
theorem out_codes (k : Fin 2048) :
    out0_7 x0 x1 x2 x3 x4 x5 (ix3 b r k) = clip (e k * inverseRef (level fun k => mag (e k))) := by
  obtain rfl : (fun k => k0_pay7 x0 x1 x2 x3 x4 x5 (ix3 b r k)) = e := funext he
  unfold out0_7
  generalize k0_pay7 x0 x1 x2 x3 x4 x5 = H
  refine Eq.trans ?_ (ref_code H b r k)
  frame_out

/-- The scales the body stores. -/
theorem out_scales : out0_8 x0 x1 x2 x3 x4 x5 (ix2 b r) = scaleRef (level fun k => mag (e k)) := by
  obtain rfl : (fun k => k0_pay7 x0 x1 x2 x3 x4 x5 (ix3 b r k)) = e := funext he
  unfold out0_8
  generalize k0_pay7 x0 x1 x2 x3 x4 x5 = H
  refine Eq.trans ?_ (ref_scale H b r)
  frame_out

end Blocks

variable (m : (ℓ : Loc nD τ sig) → Buf (Elt Ideal) ℓ)

theorem idx : ∀ t : Fin cfg0.N, win0_0.index t = ![0, 0, 0] ∧ win0_1.index t = ![0, 0, 0]
    ∧ win0_2.index t = ![0, 0] ∧ win0_3.index t = ![0, 0] ∧ win0_4.index t = ![0, 0] ∧ win0_5.index t = ![0, 0]
    ∧ win0_6.index t = ![0, 0, 0] ∧ win0_7.index t = ![0, 0, 0] ∧ win0_8.index t = ![0, 0] :=
  (by decide +kernel)

/-- The argument arrays' `h1`. -/
abbrev hOf (c : Dev nD) (b : Fin 5) (r : Fin 384) (k : Fin 2048) : EReal :=
  hAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b r k

theorem rows_at (c : Dev nD) (t : Fin cfg0.N) (b : Fin 5) (r : Fin 384) (k : Fin 2048) :
    k0_pay7 (iblk m c 0 t) (iblk m c 1 t) (iblk m c 2 t) (iblk m c 3 t) (iblk m c 4 t) (iblk m c 5 t) (ix3 b r k) = hOf m c b r k := by
  rw [rows_of]
  unfold hOf hAt
  refine rowOf_congr (fun x => ?_) (fun x => ?_) ?_ (fun n x => ?_) (fun n => ?_) (fun n => ?_)
  · blk_ext [iblk, V, idx t]
  · blk_ext [iblk, V, idx t]
  · blk_ext [iblk, V, idx t]
  · blk_simp [iblk, idx t]; unfold V; entry_read; pointwise
    refine congrArg (m ((c : Thread nD τ).loc main_arg3)) (funext fun a => Fin.ext ?_)
    match a with
    | ⟨0, _⟩ => blk_simp [idx t]; try omega
    | ⟨1, _⟩ => blk_simp [idx t]; try omega
    | ⟨2, _⟩ => blk_simp [idx t]; try omega
  · blk_simp [iblk, idx t]; unfold V; entry_read; pointwise; blk_ext [idx t]
  · blk_simp [iblk, idx t]; unfold V; entry_read; pointwise; blk_ext [idx t]

/-- The rows after the run. -/
theorem final_rows (c : Dev nD) : (dats m 0 c).arrAt 6 cfg0.N
    = rowsOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  rw [out_rows _ _ _ _ _ _ _ _ _ (rows_at m c t _ _)]
  unfold rowsOf
  have e : (win0_6.blk t).view.emb (ix3 y0 y1 y2) = ix3 y0 y1 y2 := funext fun a => Fin.ext (by
    match a with
    | ⟨0, _⟩ => blk_simp [idx t]
    | ⟨1, _⟩ => blk_simp [idx t]
    | ⟨2, _⟩ => blk_simp [idx t])
  rw [e]
  rfl

/-- The codes after the run. -/
theorem final_codes (c : Dev nD) : (dats m 0 c).arrAt 7 cfg0.N
    = codesOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  rw [out_codes _ _ _ _ _ _ _ _ _ (rows_at m c t _ _)]
  unfold codesOf levelAt
  have e : (win0_7.blk t).view.emb (ix3 y0 y1 y2) = ix3 y0 y1 y2 := funext fun a => Fin.ext (by
    match a with
    | ⟨0, _⟩ => blk_simp [idx t]
    | ⟨1, _⟩ => blk_simp [idx t]
    | ⟨2, _⟩ => blk_simp [idx t])
  rw [e]
  rfl

/-- The scales after the run. -/
theorem final_scales (c : Dev nD) : (dats m 0 c).arrAt 8 cfg0.N
    = scalesOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  idx_vars y
  rw [out_scales _ _ _ _ _ _ _ _ _ (rows_at m c t _ _)]
  unfold scalesOf levelAt
  have e : (win0_8.blk t).view.emb (ix2 y0 y1) = ix2 y0 y1 := funext fun a => Fin.ext (by
    match a with
    | ⟨0, _⟩ => blk_simp [idx t]
    | ⟨1, _⟩ => blk_simp [idx t])
  rw [e]
  rfl

end Cert.ProjRefIdeal.Result

end
-- ==== Proof.ProjValue.lean ====
/-
  The output projection: the kernel's three result arrays and the reference's are the same functions of the arguments.
-/
module

public import proofs.«01_k».proof.Proof.ProjKernelValue
public import proofs.«01_k».proof.Proof.ProjRefValue

@[expose] public section

noncomputable section

open Idealize.ShloMosaic Idealize.ShloMosaic.TcCoe Idealize.SL.Sem

namespace Cert.ProjRefIdeal.Result

open Cert.ProjRefIdeal Cert.ProjRefIdeal.Gen Cert.ProjEq

variable (m : (ℓ : Loc nD τ sig) → Buf (Elt Ideal) ℓ)

/-- What the reference's run leaves in its three result arrays. -/
theorem results (ρ : Dev nD → PrngReg) : θ_run defs (onTc (τ := τ) (main (F := Ideal))) ⟨m, fun _ => 0, ρ⟩ (fun r => ∀ c : Dev nD,
      r.2.mem ((c.tc : Thread nD τ).loc main_v3_0)
        = rowsOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v3_1)
        = codesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_v3_2)
        = scalesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_rows m c), ((h c).1 7).trans (final_codes m c),
      ((h c).1 8).trans (final_scales m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.ProjRefIdeal.Result

namespace Cert.ProjEq

/-- From memories agreeing on the arguments the kernel and the reference end with the same rows, codes and scales. -/
theorem algebraic : Cert.algebraic_ProjIdeal_ProjRefIdeal := by
  intro m ρ m' ρ' _ hagree
  refine ⟨_, _, _, Cert.ProjIdeal.Result.results m ρ, (θ_run Cert.ProjRefIdeal.defs _ _).mono
      (fun _ h c => ⟨(h c).1.trans ?_, (h c).2.1.trans ?_, (h c).2.2.1.trans ?_, (h c).2.2.2⟩) (Cert.ProjRefIdeal.Result.results m' ρ')⟩
  · obtain ⟨h0, h1, h2, h3, h4, h5⟩ := hagree c
    rw [h0, h1, h2, h3, h4, h5]
  · obtain ⟨h0, h1, h2, h3, h4, h5⟩ := hagree c
    rw [h0, h1, h2, h3, h4, h5]
  · obtain ⟨h0, h1, h2, h3, h4, h5⟩ := hagree c
    rw [h0, h1, h2, h3, h4, h5]

end Cert.ProjEq

end
-- ==== Proof.lean ====
/- `Cert.Claim`, put together: the frames and values of each call's programs are proved in the modules imported. -/
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Skeleton
public import proofs.«01_k».proof.Proof.Gen.UpRefIdeal.Launch
public import proofs.«01_k».proof.Proof.Gen.UpRefIdeal.Points
public import proofs.«01_k».proof.Proof.Gen.UpRefIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Skeleton
public import proofs.«01_k».proof.Proof.Gen.ProjRefIdeal.Launch
public import proofs.«01_k».proof.Proof.Gen.ProjRefIdeal.Points
public import proofs.«01_k».proof.Proof.Gen.ProjRefIdeal.Frame
public import proofs.«01_k».proof.Proof.Gen.DownIdeal.Value
public import proofs.«01_k».proof.Proof.Gen.DownRefIdeal.Value
public import proofs.«01_k».proof.Proof.DownValue
public import proofs.«01_k».proof.Proof.UpRun
public import proofs.«01_k».proof.Proof.UpIdealRun
public import proofs.«01_k».proof.Proof.UpValue
public import proofs.«01_k».proof.Proof.ProjRun
public import proofs.«01_k».proof.Proof.ProjIdealRun
public import proofs.«01_k».proof.Proof.ProjValue
public import Idealize.ShloMosaic.Adequacy
public import Idealize.ShloMosaic.Init

@[expose] public section

noncomputable section

namespace Cert.Proof

open Idealize.ShloMosaic Idealize.SL.Sem

theorem claim : Cert.Claim :=
  ⟨Cert.Down.Gen.facts,
   Cert.DownIdeal.Gen.facts,
   Cert.DownRefIdeal.Gen.facts,
   Cert.Up.Gen.facts,
   Cert.UpIdeal.Gen.facts,
   Cert.UpRefIdeal.Gen.facts,
   Cert.Proj.Gen.facts,
   Cert.ProjIdeal.Gen.facts,
   Cert.ProjRefIdeal.Gen.facts,
   fun m ρ _ => Cert.Down.Gen.frame m ρ,
   fun m ρ _ => Cert.DownIdeal.Gen.frame m ρ,
   fun m ρ _ => Cert.DownRefIdeal.Gen.frame m ρ,
   fun m ρ _ => Cert.Up.Run.frame m ρ,
   fun m ρ _ => Cert.UpIdeal.Run.frame m ρ,
   fun m ρ _ => Cert.UpRefIdeal.Gen.frame m ρ,
   fun m ρ _ => Cert.Proj.Run.frame m ρ,
   fun m ρ _ => Cert.ProjIdeal.Run.frame m ρ,
   fun m ρ _ => Cert.ProjRefIdeal.Gen.frame m ρ,
   trivial,
   Cert.DownEq.algebraic,
   trivial,
   Cert.UpEq.algebraic,
   trivial,
   Cert.ProjEq.algebraic⟩

end Cert.Proof

end
